-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unclipped_KernelIdeal [hPre_unclipped_KernelIdeal : Cert.Pre_unclipped_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_unclipped_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def Pre_ClippedIdeal_unclipped_ClippedIdeal [hPre_unclipped_ClippedIdeal : Cert.Pre_unclipped_ClippedIdeal.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_unclipped_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1)) (m ((c.tc : Thread Cert.ClippedIdeal.nD Cert.ClippedIdeal.τ).loc Cert.ClippedIdeal.main_arg2)) (m ((c.tc : Thread Cert.ClippedIdeal.nD Cert.ClippedIdeal.τ).loc Cert.ClippedIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_unclipped_KernelIdeal [hKernelIdeal : Cert.KernelIdeal.Facts] [hPre_unclipped_KernelIdeal : Cert.Pre_unclipped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unclipped_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2)
      ∧ r.2.mem ((c.tc : Thread Cert.ClippedIdeal.nD Cert.ClippedIdeal.τ).loc Cert.ClippedIdeal.main_arg3) = m ((c.tc : Thread Cert.ClippedIdeal.nD Cert.ClippedIdeal.τ).loc Cert.ClippedIdeal.main_arg3))
      ∧ r.2.sem = fun _ => 0)

def quiescent_ClippedIdeal_pre_unclipped_ClippedIdeal [hClippedIdeal : Cert.ClippedIdeal.Facts] [hPre_unclipped_ClippedIdeal : Cert.Pre_unclipped_ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_unclipped_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1)
      ∧ r.2.mem ((c.tc : Thread Cert.ClippedIdeal.nD Cert.ClippedIdeal.τ).loc Cert.ClippedIdeal.main_arg2) = m ((c.tc : Thread Cert.ClippedIdeal.nD Cert.ClippedIdeal.τ).loc Cert.ClippedIdeal.main_arg2)
      ∧ r.2.mem ((c.tc : Thread Cert.ClippedIdeal.nD Cert.ClippedIdeal.τ).loc Cert.ClippedIdeal.main_arg3) = m ((c.tc : Thread Cert.ClippedIdeal.nD Cert.ClippedIdeal.τ).loc Cert.ClippedIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_KernelIdeal_ClippedIdeal_pre_unclipped_KernelIdeal [hKernelIdeal : Cert.KernelIdeal.Facts] [hClippedIdeal : Cert.ClippedIdeal.Facts] [hPre_unclipped_KernelIdeal : Cert.Pre_unclipped_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal_unclipped_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = m' (((0 : Dev Cert.ClippedIdeal.nD).tc : Thread Cert.ClippedIdeal.nD Cert.ClippedIdeal.τ).loc Cert.ClippedIdeal.main_arg1)
      ∧ m ((c.tc : Thread Cert.KernelIdeal.nD Cert.KernelIdeal.τ).loc Cert.KernelIdeal.main_arg2) = m' (((0 : Dev Cert.ClippedIdeal.nD).tc : Thread Cert.ClippedIdeal.nD Cert.ClippedIdeal.τ).loc Cert.ClippedIdeal.main_arg2)
      ∧ m ((c.tc : Thread Cert.KernelIdeal.nD Cert.KernelIdeal.τ).loc Cert.KernelIdeal.main_arg3) = m' (((0 : Dev Cert.ClippedIdeal.nD).tc : Thread Cert.ClippedIdeal.nD Cert.ClippedIdeal.τ).loc Cert.ClippedIdeal.main_arg3)) →
    ∃ (v0 : Buf (Elt Ideal) (((0 : Dev Cert.ClippedIdeal.nD).tc : Thread Cert.ClippedIdeal.nD Cert.ClippedIdeal.τ).loc Cert.ClippedIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ClippedIdeal.defs (F := Ideal)) (onTc (τ := Cert.ClippedIdeal.τ) (Cert.ClippedIdeal.main (F := Ideal))) ⟨m', fun _ => 0, g'⟩ (fun r =>
          r.2.mem (((0 : Dev Cert.ClippedIdeal.nD).tc : Thread Cert.ClippedIdeal.nD Cert.ClippedIdeal.τ).loc Cert.ClippedIdeal.main_v10) = v0
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1)
          ∧ r.2.mem (((0 : Dev Cert.ClippedIdeal.nD).tc : Thread Cert.ClippedIdeal.nD Cert.ClippedIdeal.τ).loc Cert.ClippedIdeal.main_arg2) = m' (((0 : Dev Cert.ClippedIdeal.nD).tc : Thread Cert.ClippedIdeal.nD Cert.ClippedIdeal.τ).loc Cert.ClippedIdeal.main_arg2)
          ∧ r.2.mem (((0 : Dev Cert.ClippedIdeal.nD).tc : Thread Cert.ClippedIdeal.nD Cert.ClippedIdeal.τ).loc Cert.ClippedIdeal.main_arg3) = m' (((0 : Dev Cert.ClippedIdeal.nD).tc : Thread Cert.ClippedIdeal.nD Cert.ClippedIdeal.τ).loc Cert.ClippedIdeal.main_arg3))

def Claim : Prop :=
  ∃ (hKernel : Cert.Kernel.Facts) (hKernelIdeal : Cert.KernelIdeal.Facts) (hReferenceIdeal : Cert.ReferenceIdeal.Facts) (hClippedIdeal : Cert.ClippedIdeal.Facts) (hPre_unclipped_KernelIdeal : Cert.Pre_unclipped_KernelIdeal.Facts) (hPre_unclipped_ClippedIdeal : Cert.Pre_unclipped_ClippedIdeal.Facts),
    quiescent_Kernel (hKernel := hKernel)
    ∧ quiescent_KernelIdeal (hKernelIdeal := hKernelIdeal)
    ∧ quiescent_KernelIdeal_pre_unclipped_KernelIdeal (hKernelIdeal := hKernelIdeal) (hPre_unclipped_KernelIdeal := hPre_unclipped_KernelIdeal)
    ∧ quiescent_ReferenceIdeal (hReferenceIdeal := hReferenceIdeal)
    ∧ quiescent_ClippedIdeal (hClippedIdeal := hClippedIdeal)
    ∧ quiescent_ClippedIdeal_pre_unclipped_ClippedIdeal (hClippedIdeal := hClippedIdeal) (hPre_unclipped_ClippedIdeal := hPre_unclipped_ClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_pre_unclipped_KernelIdeal (hKernelIdeal := hKernelIdeal) (hClippedIdeal := hClippedIdeal) (hPre_unclipped_KernelIdeal := hPre_unclipped_KernelIdeal)
-- ==== Pre_unclipped_ClippedIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x8192_0_1 : S1x1.BroadcastsInDim S4096x8192 (![0, 1] : Fin 2 → Fin S4096x8192.rank)
  bcast_S_S4096x8192 : S_.BroadcastsInDim S4096x8192 (![] : Fin 0 → Fin S4096x8192.rank)
  reducesTo_S4096x8192_S_d0_1 : S4096x8192.ReducesTo [0, 1] S_
  h_S_ : 0 < S_.numel
  dot_S4096x4096_S4096x8192_S4096x8192_1_0_0_1_n_n_wf : DotDims.WF S4096x4096 S4096x8192 S4096x8192 [1] [0] [0] [1] [] []

variable [Facts]

def dot_S4096x4096_S4096x8192_S4096x8192_1_0_0_1_n_n : DotDims S4096x4096 S4096x8192 S4096x8192 where
  lhsContracting := [1]
  rhsContracting := [0]
  lhsNonContracting := [0]
  rhsNonContracting := [1]
  lhsBatch := []
  rhsBatch := []
  wf := dot_S4096x4096_S4096x8192_S4096x8192_1_0_0_1_n_n_wf
def fn {F : FTy → Type} [FloatOps F] (main_arg0 : FVec F S4096x4096 .f32) (main_arg1 : FVec F S4096x8192 .f32) (main_arg2 : FVec F S1 .f32) (main_arg3 : FVec F S1 .f32) : IVec S_ 1 :=
  let main_v0 : FVec F S4096x8192 .f32 := (fun l r => Host.dotGeneral dot_S4096x4096_S4096x8192_S4096x8192_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x8192 .f32 := broadcastInDim S4096x8192 ![0, 1] bcast_S1x1_S4096x8192_0_1 main_v2
  let main_v4 : FVec F S4096x8192 .f32 := mulf main_v0 main_v3
  let main_cst : FVec F S_ .f32 := constant S_ .f32 0xC2700000#32
  let main_v5 : FVec F S4096x8192 .f32 := broadcastInDim S4096x8192 ![] bcast_S_S4096x8192 main_cst
  let main_v6 : IVec S4096x8192 1 := cmpf .oge main_v4 main_v5
  let main_cst_0 : FVec F S_ .f32 := constant S_ .f32 0x42700000#32
  let main_v7 : FVec F S4096x8192 .f32 := broadcastInDim S4096x8192 ![] bcast_S_S4096x8192 main_cst_0
  let main_v8 : IVec S4096x8192 1 := cmpf .ole main_v4 main_v7
  let main_v9 : IVec S4096x8192 1 := andi main_v6 main_v8
  let main_c : IVec S_ 1 := constantI S_ 1 1#1
  let main_v10 : IVec S_ 1 := (fun x v => Host.reduce IntOp.andi x v reducesTo_S4096x8192_S_d0_1 h_S_) main_v9 main_c
  main_v10
-- ==== Pre_unclipped_KernelIdeal.lean ====
abbrev S1024x4096 : Shape := ⟨2, ![1024, 4096]⟩
abbrev S4096x8192 : Shape := ⟨2, ![4096, 8192]⟩
abbrev S1 : Shape := ⟨1, ![1]⟩
abbrev S1024x8192 : Shape := ⟨2, ![1024, 8192]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S1024x8192_0_1 : S1x1.BroadcastsInDim S1024x8192 (![0, 1] : Fin 2 → Fin S1024x8192.rank)
  bcast_S_S1024x8192 : S_.BroadcastsInDim S1024x8192 (![] : Fin 0 → Fin S1024x8192.rank)
  reducesTo_S1024x8192_S_d0_1 : S1024x8192.ReducesTo [0, 1] S_
  h_S_ : 0 < S_.numel
  dot_S1024x4096_S4096x8192_S1024x8192_1_0_0_1_n_n_wf : DotDims.WF S1024x4096 S4096x8192 S1024x8192 [1] [0] [0] [1] [] []

variable [Facts]

def dot_S1024x4096_S4096x8192_S1024x8192_1_0_0_1_n_n : DotDims S1024x4096 S4096x8192 S1024x8192 where
  lhsContracting := [1]
  rhsContracting := [0]
  lhsNonContracting := [0]
  rhsNonContracting := [1]
  lhsBatch := []
  rhsBatch := []
  wf := dot_S1024x4096_S4096x8192_S1024x8192_1_0_0_1_n_n_wf
def fn {F : FTy → Type} [FloatOps F] (main_arg0 : FVec F S1024x4096 .f32) (main_arg1 : FVec F S4096x8192 .f32) (main_arg2 : FVec F S1 .f32) (main_arg3 : FVec F S1 .f32) : IVec S_ 1 :=
  let main_v0 : FVec F S1024x8192 .f32 := (fun l r => Host.dotGeneral dot_S1024x4096_S4096x8192_S1024x8192_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S1024x8192 .f32 := broadcastInDim S1024x8192 ![0, 1] bcast_S1x1_S1024x8192_0_1 main_v2
  let main_v4 : FVec F S1024x8192 .f32 := mulf main_v0 main_v3
  let main_cst : FVec F S_ .f32 := constant S_ .f32 0xC2700000#32
  let main_v5 : FVec F S1024x8192 .f32 := broadcastInDim S1024x8192 ![] bcast_S_S1024x8192 main_cst
  let main_v6 : IVec S1024x8192 1 := cmpf .oge main_v4 main_v5
  let main_cst_0 : FVec F S_ .f32 := constant S_ .f32 0x42700000#32
  let main_v7 : FVec F S1024x8192 .f32 := broadcastInDim S1024x8192 ![] bcast_S_S1024x8192 main_cst_0
  let main_v8 : IVec S1024x8192 1 := cmpf .ole main_v4 main_v7
  let main_v9 : IVec S1024x8192 1 := andi main_v6 main_v8
  let main_c : IVec S_ 1 := constantI S_ 1 1#1
  let main_v10 : IVec S_ 1 := (fun x v => Host.reduce IntOp.andi x v reducesTo_S1024x8192_S_d0_1 h_S_) main_v9 main_c
  main_v10
-- ==== Kernel.lean ====
abbrev S1024x4096 : Shape := ⟨2, ![1024, 4096]⟩
abbrev S4096x8192 : Shape := ⟨2, ![4096, 8192]⟩
abbrev S1 : Shape := ⟨1, ![1]⟩
abbrev S4096x2048 : Shape := ⟨2, ![4096, 2048]⟩
abbrev S4x512x4096 : Shape := ⟨3, ![4, 512, 4096]⟩
abbrev S2x512x2048 : Shape := ⟨3, ![2, 512, 2048]⟩
abbrev S4x256x2048 : Shape := ⟨3, ![4, 256, 2048]⟩
abbrev S3x2 : Shape := ⟨2, ![3, 2]⟩
abbrev S2 : Shape := ⟨1, ![2]⟩
abbrev S4 : Shape := ⟨1, ![4]⟩
abbrev S512x4096 : Shape := ⟨2, ![512, 4096]⟩
abbrev S1x512x4096 : Shape := ⟨3, ![1, 512, 4096]⟩
abbrev S_ : Shape := ⟨0, ![]⟩
abbrev S1x1 : Shape := ⟨2, ![1, 1]⟩
abbrev S1x256x4096 : Shape := ⟨3, ![1, 256, 4096]⟩
abbrev S256x4096 : Shape := ⟨2, ![256, 4096]⟩
abbrev S1x512x2048 : Shape := ⟨3, ![1, 512, 2048]⟩
abbrev S512x2048 : Shape := ⟨2, ![512, 2048]⟩
abbrev S256x2048 : Shape := ⟨2, ![256, 2048]⟩
abbrev S1x256x2048 : Shape := ⟨3, ![1, 256, 2048]⟩

abbrev nBuf : Space → Nat
  | .hbm => 5
  | .vmem => 6
  | .smem => 2
  | _ => 0

abbrev bufTy : (tb : Table) → Fin (tcTables nBuf tb) → BufTy
  | .hbm, ⟨0, _⟩ => ⟨S1024x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S1024x4096, .f32⟩
  | .local _ .vmem, ⟨1, _⟩ => ⟨S4x512x4096, .fp8e4m3⟩
  | .local _ .vmem, ⟨2, _⟩ => ⟨S4x512x4096, .fp8e4m3⟩
  | .local _ .vmem, ⟨3, _⟩ => ⟨S2x512x2048, .f32⟩
  | .local _ .vmem, ⟨4, _⟩ => ⟨S4096x2048, .fp8e4m3⟩
  | .local _ .vmem, ⟨5, _⟩ => ⟨S4x256x2048, .f32⟩
  | .local _ .smem, ⟨0, _⟩ => ⟨S1, .f32⟩
  | .local _ .smem, ⟨1, _⟩ => ⟨S1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_12 : BitVec 32 := 1#32
  let v20 : BitVec 32 := Scalar.muli v4 c1_i32_12
  let v21 : BitVec 32 := Scalar.addi c0_i32 v20
  v21.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_14 : BitVec 32 := 1#32
  let v22 : BitVec 32 := Scalar.muli v6 c1_i32_14
  let v23 : BitVec 32 := Scalar.addi c0_i32_15 v22
  v23.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_22 : BitVec 32 := 1#32
  let v24 : BitVec 32 := Scalar.muli v6 c1_i32_22
  let v25 : BitVec 32 := Scalar.addi c0_i32_23 v24
  v25.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_34 : BitVec 32 := 1#32
  let v34 : BitVec 32 := Scalar.muli v4 c1_i32_34
  let v35 : BitVec 32 := Scalar.addi c0_i32_35 v34
  v35.toNat
def k0_dev5 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_46 : BitVec 32 := 1#32
  let v44 : BitVec 32 := Scalar.muli v6 c1_i32_46
  let v45 : BitVec 32 := Scalar.addi c0_i32_47 v44
  v45.toNat
def k0_dev6 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_57 : BitVec 32 := 1#32
  let v54 : BitVec 32 := Scalar.muli v4 c1_i32_57
  let v55 : BitVec 32 := Scalar.addi c0_i32_58 v54
  v55.toNat
def k0_off1 (d0 : Dev nD) : Fin 2 → Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32 : BitVec 32 := 2048#32
  let v64 : BitVec 32 := Scalar.muli v2 c2048_i32
  ![0, v64.toNat]
def k0_off2 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_68 : BitVec 32 := 2048#32
  let v70 : BitVec 32 := Scalar.muli v2 c2048_i32_68
  ![512, v70.toNat]
def k0_off3 (d0 : Dev nD) : Fin 2 → Nat :=
  let c1024_i32 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_84 : BitVec 32 := 2048#32
  let v88 : BitVec 32 := Scalar.muli v2 c2048_i32_84
  ![1024, v88.toNat]
def k0_off4 (d0 : Dev nD) : Fin 2 → Nat :=
  let c1536_i32 : BitVec 32 := 1536#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_99 : BitVec 32 := 2048#32
  let v106 : BitVec 32 := Scalar.muli v2 c2048_i32_99
  ![1536, v106.toNat]
def k0_off5 (d0 : Dev nD) : Fin 2 → Nat :=
  let c2048_i32_119 : BitVec 32 := 2048#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_114 : BitVec 32 := 2048#32
  let v124 : BitVec 32 := Scalar.muli v2 c2048_i32_114
  ![2048, v124.toNat]
def k0_off6 (d0 : Dev nD) : Fin 2 → Nat :=
  let c2560_i32 : BitVec 32 := 2560#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_130 : BitVec 32 := 2048#32
  let v142 : BitVec 32 := Scalar.muli v2 c2048_i32_130
  ![2560, v142.toNat]
def k0_off7 (d0 : Dev nD) : Fin 2 → Nat :=
  let c3072_i32 : BitVec 32 := 3072#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_145 : BitVec 32 := 2048#32
  let v160 : BitVec 32 := Scalar.muli v2 c2048_i32_145
  ![3072, v160.toNat]
def k0_off8 (d0 : Dev nD) : Fin 2 → Nat :=
  let c3584_i32 : BitVec 32 := 3584#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_160 : BitVec 32 := 2048#32
  let v178 : BitVec 32 := Scalar.muli v2 c2048_i32_160
  ![3584, v178.toNat]
def k0_off9 (d0 : Dev nD) (c0_i32_191 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_190 : BitVec 32 := 1024#32
  let v213 : BitVec 32 := Scalar.muli v2 c1024_i32_190
  let v214 : BitVec 32 := Scalar.addi v213 c0_i32_191
  let c0_i32_199 : BitVec 32 := 0#32
  ![v214.toNat, 0]
def k0_off10 (d0 : Dev nD) (c0_i32_207 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_205 : BitVec 32 := 1024#32
  let v231 : BitVec 32 := Scalar.muli v2 c1024_i32_205
  let c512_i32_206 : BitVec 32 := 512#32
  let v232 : BitVec 32 := Scalar.addi v231 c512_i32_206
  let v233 : BitVec 32 := Scalar.addi v232 c0_i32_207
  let c0_i32_216 : BitVec 32 := 0#32
  ![v233.toNat, 0]
def k0_dev7 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_272 : BitVec 32 := 1#32
  let v298 : BitVec 32 := Scalar.muli v6 c1_i32_272
  let v299 : BitVec 32 := Scalar.addi c0_i32_273 v298
  v299.toNat
def k0_dev8 (d0 : Dev nD) : Nat :=
  let c0_i32_297 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_296 : BitVec 32 := 1#32
  let v316 : BitVec 32 := Scalar.muli v4 c1_i32_296
  let v317 : BitVec 32 := Scalar.addi c0_i32_297 v316
  v317.toNat
def k0_off11 (d0 : Dev nD) (c3_i32_249 : BitVec 32) (c0_i32_306 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v285 : BitVec 32 := Scalar.addi v2 c3_i32_249
  let c4_i32_250 : BitVec 32 := 4#32
  let v286 : BitVec 32 := Scalar.remsi v285 c4_i32_250
  let c1024_i32_305 : BitVec 32 := 1024#32
  let v328 : BitVec 32 := Scalar.muli v286 c1024_i32_305
  let v329 : BitVec 32 := Scalar.addi v328 c0_i32_306
  let c0_i32_320 : BitVec 32 := 0#32
  ![v329.toNat, 0]
def k0_off12 (d0 : Dev nD) (c0_i32_251 : BitVec 32) (c0_i32_328 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v287 : BitVec 32 := Scalar.addi v2 c0_i32_251
  let c1_i32_252 : BitVec 32 := 1#32
  let v288 : BitVec 32 := Scalar.addi v287 c1_i32_252
  let c4_i32_253 : BitVec 32 := 4#32
  let v289 : BitVec 32 := Scalar.remsi v288 c4_i32_253
  let c1024_i32_326 : BitVec 32 := 1024#32
  let v351 : BitVec 32 := Scalar.muli v289 c1024_i32_326
  let c512_i32_327 : BitVec 32 := 512#32
  let v352 : BitVec 32 := Scalar.addi v351 c512_i32_327
  let v353 : BitVec 32 := Scalar.addi v352 c0_i32_328
  let c0_i32_342 : BitVec 32 := 0#32
  ![v353.toNat, 0]
def k0_dev9 (d0 : Dev nD) : Nat :=
  let c0_i32_364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_363 : BitVec 32 := 1#32
  let v381 : BitVec 32 := Scalar.muli v6 c1_i32_363
  let v382 : BitVec 32 := Scalar.addi c0_i32_364 v381
  v382.toNat
def k0_dev10 (d0 : Dev nD) : Nat :=
  let c0_i32_388 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_387 : BitVec 32 := 1#32
  let v399 : BitVec 32 := Scalar.muli v4 c1_i32_387
  let v400 : BitVec 32 := Scalar.addi c0_i32_388 v399
  v400.toNat
def k0_dev11 (d0 : Dev nD) : Nat :=
  let c0_i32_460 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_459 : BitVec 32 := 1#32
  let v469 : BitVec 32 := Scalar.muli v6 c1_i32_459
  let v470 : BitVec 32 := Scalar.addi c0_i32_460 v469
  v470.toNat
def k0_dev12 (d0 : Dev nD) : Nat :=
  let c0_i32_484 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_483 : BitVec 32 := 1#32
  let v487 : BitVec 32 := Scalar.muli v4 c1_i32_483
  let v488 : BitVec 32 := Scalar.addi c0_i32_484 v487
  v488.toNat
def k0_dev13 (d0 : Dev nD) : Nat :=
  let c0_i32_551 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_550 : BitVec 32 := 1#32
  let v552 : BitVec 32 := Scalar.muli v6 c1_i32_550
  let v553 : BitVec 32 := Scalar.addi c0_i32_551 v552
  v553.toNat
def k0_dev14 (d0 : Dev nD) : Nat :=
  let c0_i32_575 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_574 : BitVec 32 := 1#32
  let v570 : BitVec 32 := Scalar.muli v4 c1_i32_574
  let v571 : BitVec 32 := Scalar.addi c0_i32_575 v570
  v571.toNat
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== ClippedIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Base.lean ====
/-
The protocol of the kernel: the ring, its buffers and semaphores, the contents every buffer is to hold, and the
schedule of what each wait receives.

Four devices sit on a ring. Each device holds 1024 rows of the left operand, cast to eight bits, and sends them the
whole way round: the upper 512 rows forward, to the next device, and the lower 512 rows backward, to the previous
one, each in two halves of 256 rows. A transfer is named by its direction (`false` forward, `true` backward), its
hop `0, 1, 2` and its half: hop `h` moves a half from slot `h` of the sender's buffer into slot `h + 1` of the
receiver's.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Exec.Context
public import Idealize.ShloMosaic.Lib.VecWindow
public import Idealize.ShloMosaic.Lib.Ring
public import Idealize.ShloMosaic.Lib.Tactic

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy, the ring's (duties `Bool`), and the counters of the local copies -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb (U := UU)

instance ER_landsIn : (ER : Emb UB (MT nD τ sig Unit (Elt F) ℕ UU ℕ)).LandsIn (upEmb : UEmb _ (MT nD τ sig Unit (Elt F) ℕ UU ℕ)) := by
  unfold ER; infer_instance

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The device a device sends to, forward (`false`) and backward (`true`); -/
def peer (d : Bool) (c : Dev nD) : Dev nD := if d then prv c else nxt c
/-- and the one it receives from. -/
def back (d : Bool) (c : Dev nD) : Dev nD := if d then nxt c else prv c

theorem back_peer (d : Bool) (c : Dev nD) : back d (peer d c) = c := by revert d c; decide
theorem peer_back (d : Bool) (c : Dev nD) : peer d (back d c) = c := by revert d c; decide
theorem peer_not (d : Bool) (c : Dev nD) : peer (!d) c = back d c := by revert d c; decide

/-- The device whose rows lie in slot `k` of device `c`'s buffer of direction `d`. -/
def hop (d : Bool) (k : Fin 4) (c : Dev nD) : Dev nD :=
  if d then ⟨(c.val + k.val) % 4, Nat.mod_lt _ (by decide)⟩ else ⟨(c.val + (4 - k.val)) % 4, Nat.mod_lt _ (by decide)⟩

theorem hop_zero (d : Bool) (c : Dev nD) : hop d 0 c = c := by revert d c; decide
theorem hop_succ (d : Bool) (h : Fin 3) (c : Dev nD) : hop d h.succ (peer d c) = hop d h.castSucc c := by
  revert d h c; decide

/-! ## The buffers and semaphores -/

/-- A transfer: its direction, hop and half. -/
abbrev Xf : Type := Bool × Fin 3 × Fin 2

abbrev xM : Memref sig .tc .vmem S1024x4096 .f32 := Memref.whole cc0_stg0_0
abbrev fwM : Memref sig .tc .vmem S4x512x4096 .fp8e4m3 := Memref.whole cc0_scratch0
abbrev bwM : Memref sig .tc .vmem S4x512x4096 .fp8e4m3 := Memref.whole cc0_scratch1
abbrev stM : Memref sig .tc .vmem S2x512x2048 .f32 := Memref.whole cc0_scratch2
abbrev w8M : Memref sig .tc .vmem S4096x2048 .fp8e4m3 := Memref.whole cc0_scratch3
abbrev osM : Memref sig .tc .vmem S4x256x2048 .f32 := Memref.whole cc0_scratch4
abbrev wM : Memref sig .tc .hbm S4096x8192 .f32 := Memref.whole main_arg1
abbrev outM : Memref sig .tc .hbm S4096x2048 .f32 := Memref.whole main_v1
abbrev sxM : Memref sig .tc .smem S1 .f32 := Memref.whole cc0_stg1_0
abbrev swM : Memref sig .tc .smem S1 .f32 := Memref.whole cc0_stg2_0

abbrev bufM (d : Bool) : Memref sig .tc .vmem S4x512x4096 .fp8e4m3 := match d with | false => fwM | true => bwM

theorem inb_slab (k : Fin 4) (j : Fin 2) : ∀ a, (![k.val, 256 * j.val, 0] : Fin 3 → Nat) a + S1x256x4096.size a ≤ S4x512x4096.size a := by
  revert k j; decide
abbrev slabR (k : Fin 4) (j : Fin 2) : Rect S4x512x4096 := Rect.unit (s := S4x512x4096) ![k.val, 256 * j.val, 0] S1x256x4096.size (inb_slab k j)
/-- Half `j` of slot `k` of the buffer of direction `d`. -/
abbrev slab (d : Bool) (k : Fin 4) (j : Fin 2) : Memref sig .tc .vmem S256x4096 .fp8e4m3 :=
  ((bufM d).slice (slabR k j) (fun _ => rfl)).squeeze S256x4096 squeezes_S1x256x4096_S256x4096

theorem inb_sem (h : Fin 3) (j : Fin 2) : ∀ a, (![h.val, j.val] : Fin 2 → Nat) a + S1x1.size a ≤ S3x2.size a := by revert h j; decide
abbrev dsem (A : DmaSems sig S3x2) (h : Fin 3) (j : Fin 2) : DmaSem sig :=
  ((A.slice (Rect.unit (s := S3x2) ![h.val, j.val] S1x1.size (inb_sem h j))).squeeze S_ squeezes_S1x1_S_).sem
abbrev sndA (d : Bool) : DmaSems sig S3x2 := match d with | false => cc0_scratch5 | true => cc0_scratch7
abbrev rcvA (d : Bool) : DmaSems sig S3x2 := match d with | false => cc0_scratch6 | true => cc0_scratch8
abbrev sndS (x : Xf) : DmaSem sig := dsem (sndA x.1) x.2.1 x.2.2
abbrev rcvS (x : Xf) : DmaSem sig := dsem (rcvA x.1) x.2.1 x.2.2

abbrev barS : Sem sig := (SemArray.scalar (sig.barrier 0 rfl) : Sems sig S_).sem

/-- The cells of the ring's protocol on one device: its barrier, and a send and a receive cell for every transfer. -/
abbrev CK : Type := Option (Bool × Xf)
abbrev csem : CK → SemLoc sig
  | none => .reg barS
  | some (false, x) => .dma (sndS x)
  | some (true, x) => .dma (rcvS x)
abbrev kcell (ck : Dev nD × CK) : GSem nD τ sig := ((ck.1 : Thread nD τ), csem ck.2)
abbrev barCell (c : Dev nD) : GSem nD τ sig := ((c : Thread nD τ), .reg barS)
abbrev sndCell (c : Dev nD) (x : Xf) : GSem nD τ sig := ((c : Thread nD τ), .dma (sndS x))
abbrev rcvCell (c : Dev nD) (x : Xf) : GSem nD τ sig := ((c : Thread nD τ), .dma (rcvS x))

theorem csem_injective : Function.Injective csem := by
  have h1 : ∀ x x' : Xf, sndS x = sndS x' → x = x' := by decide
  have h2 : ∀ x x' : Xf, rcvS x = rcvS x' → x = x' := by decide
  have h3 : ∀ x x' : Xf, sndS x ≠ rcvS x' := by decide
  rintro (_ | ⟨_ | _, x⟩) (_ | ⟨_ | _, x'⟩) h
  · rfl
  · exact absurd h (by intro h; cases h)
  · exact absurd h (by intro h; cases h)
  · exact absurd h (by intro h; cases h)
  · rw [h1 x x' (SemLoc.dma.inj h)]
  · exact absurd (SemLoc.dma.inj h) (h3 x x')
  · exact absurd h (by intro h; cases h)
  · exact absurd (SemLoc.dma.inj h).symm (h3 x' x)
  · rw [h2 x x' (SemLoc.dma.inj h)]

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]

open Classical in
/-- The protocol's name of a semaphore, if it is one of the ring's. -/
def keyOf (s : SemLoc sig) : Option CK := if h : ∃ k, csem k = s then some h.choose else none
theorem keyOf_csem (k : CK) : keyOf (csem k) = some k := by
  have h : ∃ k', csem k' = csem k := ⟨k, rfl⟩
  unfold keyOf; rw [dif_pos h]; exact congrArg some (csem_injective h.choose_spec)
theorem keyOf_none {s : SemLoc sig} (h : ∀ k, csem k ≠ s) : keyOf s = none := by
  unfold keyOf; rw [dif_neg]; rintro ⟨k, hk⟩; exact h k hk

abbrev N : ℕ := (slab false 0 0).view.dmaCredit
theorem N_pos : 0 < N := View.dmaCredit_pos _ (by decide)
theorem slab_credit (d : Bool) (k : Fin 4) (j : Fin 2) : (slab d k j).view.dmaCredit = N := by cases d <;> rfl

/-! ## Contents -/

/-- A memref's elements held at share `q`, with the contents `X` it reads. -/
def mPts (c : Dev nD) {sp : Space} {s : Shape} {e : EltTy} (M : Memref sig .tc sp s e) (q : PosShare TreeShare) (X : s.Idx → Elt F e) : sProp 𝕄 :=
  M.view.loc (c : Thread nD τ) ↦[M.view.set]{q} M.view.rep X

instance mPts_storable (c : Dev nD) {sp : Space} {s : Shape} {e : EltTy} (M : Memref sig .tc sp s e) (q : PosShare TreeShare) (X : s.Idx → Elt F e) :
    BI.Storable (upEmb : UEmb _ 𝕄) (mPts c M q X) := by unfold mPts; infer_instance

/-- Any contents of the elements are the contents they read. -/
theorem mPts_of (c : Dev nD) {sp : Space} {s : Shape} {e : EltTy} (M : Memref sig .tc sp s e) (q : PosShare TreeShare) (f : Buf (Elt F) (M.view.loc (c : Thread nD τ))) :
    (M.view.loc (c : Thread nD τ) ↦[M.view.set]{q} f : sProp 𝕄) = mPts c M q (M.view.read (Elt F) f) :=
  pointsTo_rep (c : Thread nD τ) M f q

theorem mPts_share (c : Dev nD) {sp : Space} {s : Shape} {e : EltTy} (M : Memref sig .tc sp s e) (X : s.Idx → Elt F e) :
    (mPts c M fullShare X : sProp 𝕄) ⊣⊢ iprop(mPts c M fullShare.left X ∗ mPts c M fullShare.right X) :=
  pointsTo_share (PosShare.mem_left_op_right fullShare)

abbrev Slab (F : FTy → Type) : Type := S256x4096.Idx → Elt F .fp8e4m3

section Sched

-- `SV c d j`: half `j` of the rows device `c` sends in direction `d`.
variable (SV : Dev nD → Bool → Fin 2 → Slab F)

/-- Half `j` of slot `k`, direction `d`, on device `c`, holding what the ring brings there. -/
def slabAt (c : Dev nD) (d : Bool) (k : Fin 4) (j : Fin 2) (q : PosShare TreeShare) : sProp 𝕄 :=
  mPts c (slab d k j) q (SV (hop d k c) d j)

/-- The half slot a transfer of device `c` lands in, free. -/
def landing (c : Dev nD) (x : Xf) : sProp 𝕄 := iprop(∃ X : Slab F, mPts c (slab x.1 x.2.1.succ x.2.2) fullShare X)

/-- What the signal of `peer d c` hands device `c`: every half slot of that device's buffer `d` but slot 0's. -/
def barPay (c : Dev nD) (d : Bool) : sProp 𝕄 := bigSep Finset.univ fun hj : Fin 3 × Fin 2 => landing (F := F) (peer d c) (d, hj)
def sndPay (c : Dev nD) (x : Xf) : sProp 𝕄 := slabAt SV c x.1 x.2.1.castSucc x.2.2 fullShare.left
def rcvPay (c : Dev nD) (x : Xf) : sProp 𝕄 := slabAt SV c x.1 x.2.1.succ x.2.2 fullShare

def dutiesOf (t : Bool) : Option CK → Finset Bool
  | some none => if t then Finset.univ else ∅
  | some (some _) => if t then {false} else ∅
  | none => ∅
def amountOf : Option CK → ℕ
  | some none => 1
  | _ => N
def payOf (c : Dev nD) (b : Bool) : Option CK → sProp 𝕄
  | some none => barPay c b
  | some (some (false, x)) => sndPay SV c x
  | some (some (true, x)) => rcvPay SV c x
  | none => iprop(emp)

/-- One round: a barrier cell has a duty of one unit for either neighbour, a send or receive cell the duty `false` of a
    slab's credit. -/
def ringRd : Rounds.Schedule (GSem nD τ sig) Bool 𝕄 where
  duties g r := dutiesOf (decide (r = 0 ∧ g.1.2 = .tc)) (keyOf g.2)
  unitless _ := False
  amount g _ _ := amountOf (keyOf g.2)
  payload g _ d := payOf SV g.1.1 d (keyOf g.2)
  amount_pos g _ _ _ := by
    generalize keyOf g.2 = k
    match k with
    | none => exact N_pos
    | some none => exact Nat.one_pos
    | some (some _) => exact N_pos

instance payOf_storable (c : Dev nD) (b : Bool) (k : Option CK) : BI.Storable (upEmb : UEmb _ 𝕄) (payOf SV c b k) := by
  match k with
  | none => unfold payOf; infer_instance
  | some none => unfold payOf barPay landing; infer_instance
  | some (some (false, x)) => unfold payOf sndPay slabAt; infer_instance
  | some (some (true, x)) => unfold payOf rcvPay slabAt; infer_instance

instance ringRd_payload_storable (g : GSem nD τ sig) (r : ℕ) (d : Bool) :
    BI.Storable (upEmb : UEmb _ 𝕄) ((ringRd SV).payload g r d) := by
  show BI.Storable upEmb (payOf SV g.1.1 d (keyOf g.2)); infer_instance

theorem duties_bar (c : Dev nD) : (ringRd SV).duties (barCell c) 0 = Finset.univ := by
  show dutiesOf (decide (0 = 0 ∧ _)) (keyOf (csem none)) = _
  rw [keyOf_csem, decide_eq_true ⟨rfl, rfl⟩]; rfl
theorem duties_snd (c : Dev nD) (x : Xf) : (ringRd SV).duties (sndCell c x) 0 = {false} := by
  show dutiesOf (decide (0 = 0 ∧ _)) (keyOf (csem (some (false, x)))) = _
  rw [keyOf_csem, decide_eq_true ⟨rfl, rfl⟩]; rfl
theorem duties_rcv (c : Dev nD) (x : Xf) : (ringRd SV).duties (rcvCell c x) 0 = {false} := by
  show dutiesOf (decide (0 = 0 ∧ _)) (keyOf (csem (some (true, x)))) = _
  rw [keyOf_csem, decide_eq_true ⟨rfl, rfl⟩]; rfl
theorem duties_later (g : GSem nD τ sig) : ∀ r, 1 ≤ r → (ringRd SV).duties g r = ∅ := fun r hr => by
  show dutiesOf (decide (r = 0 ∧ _)) (keyOf g.2) = ∅
  rw [decide_eq_false (fun h => by omega)]
  generalize keyOf g.2 = k
  match k with | none => rfl | some none => rfl | some (some _) => rfl

theorem amount_bar (c : Dev nD) (r : ℕ) (b : Bool) : (ringRd SV).amount (barCell c) r b = 1 := by
  show amountOf (keyOf (csem none)) = 1; rw [keyOf_csem]; rfl
theorem amount_snd (c : Dev nD) (x : Xf) (r : ℕ) (b : Bool) : (ringRd SV).amount (sndCell c x) r b = N := by
  show amountOf (keyOf (csem (some (false, x)))) = N; rw [keyOf_csem]; rfl
theorem amount_rcv (c : Dev nD) (x : Xf) (r : ℕ) (b : Bool) : (ringRd SV).amount (rcvCell c x) r b = N := by
  show amountOf (keyOf (csem (some (true, x)))) = N; rw [keyOf_csem]; rfl

theorem expect_bar (c : Dev nD) : (ringRd SV).expect (barCell c) 0 = 2 := by
  unfold Schedule.expect Schedule.amountOf
  rw [duties_bar, Finset.sum_congr rfl fun d _ => amount_bar SV c 0 d, Finset.sum_const, Finset.card_univ, Fintype.card_bool, smul_eq_mul]
theorem expect_snd (c : Dev nD) (x : Xf) : (ringRd SV).expect (sndCell c x) 0 = N := by
  unfold Schedule.expect Schedule.amountOf; rw [duties_snd, Finset.sum_singleton, amount_snd]
theorem expect_rcv (c : Dev nD) (x : Xf) : (ringRd SV).expect (rcvCell c x) 0 = N := by
  unfold Schedule.expect Schedule.amountOf; rw [duties_rcv, Finset.sum_singleton, amount_rcv]

theorem payload_bar (c : Dev nD) (r : ℕ) (b : Bool) : (ringRd SV).payload (barCell c) r b = barPay c b := by
  show payOf SV c b (keyOf (csem none)) = _; rw [keyOf_csem]; rfl
theorem payload_snd (c : Dev nD) (x : Xf) (r : ℕ) (b : Bool) : (ringRd SV).payload (sndCell c x) r b = sndPay SV c x := by
  show payOf SV c b (keyOf (csem (some (false, x)))) = _; rw [keyOf_csem]; rfl
theorem payload_rcv (c : Dev nD) (x : Xf) (r : ℕ) (b : Bool) : (ringRd SV).payload (rcvCell c x) r b = rcvPay SV c x := by
  show payOf SV c b (keyOf (csem (some (true, x)))) = _; rw [keyOf_csem]; rfl

/-- The barrier's whole round: both neighbours' half slots. -/
theorem rest_bar (c : Dev nD) : bigSep ((ringRd SV).duties (barCell c) 0 \ ∅) (fun d => (ringRd SV).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
theorem rest_snd (c : Dev nD) (x : Xf) : bigSep ((ringRd SV).duties (sndCell c x) 0 \ ∅) (fun d => (ringRd SV).payload (sndCell c x) 0 d) = sndPay SV c x := by
  rw [Finset.sdiff_empty, duties_snd, bigSep_singleton, payload_snd]
theorem rest_rcv (c : Dev nD) (x : Xf) : bigSep ((ringRd SV).duties (rcvCell c x) 0 \ ∅) (fun d => (ringRd SV).payload (rcvCell c x) 0 d) = rcvPay SV c x := by
  rw [Finset.sdiff_empty, duties_rcv, bigSep_singleton, payload_rcv]

end Sched

/-! ## What each device owes; the levels -/

/-- What device `c` owes while the transfers `l` are still to be issued: each one's credit, to the receive cell it lands on. -/
def owedL (c : Dev nD) : List Xf → CellTallies nD τ sig Unit
  | [] => 0
  | x :: l => owedL c l + tallyAt (rcvCell (peer x.1 c) x) () N

/-- Every transfer, in the order they are issued. -/
def allX : List Xf := [(false, 0, 0), (true, 0, 0), (false, 0, 1), (true, 0, 1), (false, 1, 0), (true, 1, 0), (false, 1, 1), (true, 1, 1),
  (false, 2, 0), (true, 2, 0), (false, 2, 1), (true, 2, 1)]

/-- At launch a device owes also a unit to the barriers of its neighbours: the previous device is signalled first. -/
def O₁ (c : Dev nD) : CellTallies nD τ sig Unit := owedL c allX + tallyAt (barCell (nxt c)) () 1
def O₀ (c : Dev nD) : CellTallies nD τ sig Unit := O₁ c + tallyAt (barCell (prv c)) () 1

def L (g : GSem nD τ sig) : Finset Unit := if g.1.2 = .tc then {()} else ∅
def lvOf : Option CK → ℕ
  | some none => 1
  | some (some (true, x)) => 2 + x.2.1.val
  | _ => 0
/-- A barrier is at level 1, the receive cells of hop `h` at `2 + h`, everything else at 0. -/
def lv (g : GSem nD τ sig) (_ : Unit) : ℕ := lvOf (keyOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by show lvOf (keyOf (csem none)) = 1; rw [keyOf_csem]; rfl
theorem lv_snd (c : Dev nD) (x : Xf) : lv (sndCell c x) () = 0 := by show lvOf (keyOf (csem (some (false, x)))) = _; rw [keyOf_csem]; rfl
theorem lv_rcv (c : Dev nD) (x : Xf) : lv (rcvCell c x) () = 2 + x.2.1.val := by show lvOf (keyOf (csem (some (true, x)))) = _; rw [keyOf_csem]; rfl
theorem lv_other (c : Dev nD) {s : SemLoc sig} (h : ∀ k, csem k ≠ s) : lv ((c : Thread nD τ), s) () = 0 := by
  show lvOf (keyOf s) = 0; rw [keyOf_none h]; rfl

theorem owedL_pos {c : Dev nD} {l : List Xf} {g : GSem nD τ sig} {u : Unit} (h : 0 < owedL c l g u) :
    ∃ x ∈ l, g = rcvCell (peer x.1 c) x := by
  induction l with
  | nil => exact absurd h (Nat.lt_irrefl 0)
  | cons x l ih =>
    unfold owedL at h
    rw [Pi.add_apply, Finsupp.add_apply, tallyAt_apply] at h
    by_cases h' : g = rcvCell (peer x.1 c) x ∧ u = ()
    · exact ⟨x, List.mem_cons_self, h'.1⟩
    · rw [if_neg h', Nat.add_zero] at h
      obtain ⟨y, hy, hg⟩ := ih h
      exact ⟨y, List.mem_cons_of_mem _ hy, hg⟩

/-- A wait on a cell below every transfer still owed is allowed. -/
theorem mayWait (c : Dev nD) (sm : SemLoc sig) (n : ℕ) (hn : lv ((c : Thread nD τ), sm) () ≤ n) (l : List Xf) (hl : ∀ x ∈ l, n < 2 + x.2.1.val) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨x, hx, rfl⟩ := owedL_pos hg; exact Finset.mem_singleton_self _)
    (fun p hp => by rw [Finset.mem_singleton.mp hp]; exact hn)
    (fun g u hg => by obtain ⟨x, hx, rfl⟩ := owedL_pos hg; rw [lv_rcv]; exact hl x hx)

theorem O₀_pos {c : Dev nD} {g : GSem nD τ sig} {u : Unit} (h : 0 < O₀ c g u) :
    (∃ x, g = rcvCell (peer x.1 c) x) ∨ g = barCell (nxt c) ∨ g = barCell (prv c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1)] at h
  obtain ⟨x, -, hx⟩ := owedL_pos (show 0 < owedL c allX g u from h)
  exact hn.1 ⟨x, hx⟩

/-- A wait on a cell of none of the ring's, owing what is owed at launch, is allowed. -/
theorem mayWait_stage (c : Dev nD) (sm : SemLoc sig) (hs : ∀ k, csem k ≠ sm) (O : CellTallies nD τ sig Unit) (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨x, rfl⟩ | rfl | rfl <;> exact Finset.mem_singleton_self _)
      (fun p hp => by rw [Finset.mem_singleton.mp hp]; exact (lv_other c hs).le)
      (fun g u hg => by
        rcases O₀_pos hg with ⟨x, rfl⟩ | rfl | rfl
        · rw [lv_rcv]; omega
        · rw [lv_bar]; decide
        · rw [lv_bar]; decide)
  · rw [MayWait_zero]; iintro -; iempintro

end Cert.GemmProof
-- ==== Proof.Steps.lean ====
/-
The steps of the ring: the signals, the wait on the barrier, a transfer issued, its two waits.
-/
module

public import proofs.«01_k».proof.Proof.Base

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps

variable (SV : Dev nD → Bool → Fin 2 → Slab F) (K : Dev nD × CK → ℕ)

/-! ## What every device knows -/

/-- The invariants of the whole machine's cells, at their names, and that every cell has reached its round. -/
def records : sProp 𝕄 :=
  iprop(bigSep Finset.univ (fun ck : Dev nD × CK => cellInv ER (ringRd SV) (K ck) (kcell ck))
    ∗ bigSep Finset.univ (fun ck : Dev nD × CK => reached ER (kcell ck) 0))
/-- The records and the levels. -/
def env : sProp 𝕄 := iprop(records SV K ∗ levAts L lv)

instance records_persistent : BI.Persistent (records SV K) := by unfold records; infer_instance
instance env_persistent : BI.Persistent (env SV K) := by unfold env; infer_instance

theorem at_inv (ck : Dev nD × CK) :
    (bigSep Finset.univ fun ck : Dev nD × CK => (cellInv ER (ringRd SV) (K ck) (kcell ck) : sProp 𝕄)) ⊢ cellInv ER (ringRd SV) (K ck) (kcell ck) :=
  bigSep_elim (Finset.mem_univ ck)
theorem at_reached (ck : Dev nD × CK) :
    (bigSep Finset.univ fun ck : Dev nD × CK => (reached ER (kcell ck) 0 : sProp 𝕄)) ⊢ reached ER (kcell ck) 0 :=
  bigSep_elim (Finset.mem_univ ck)
theorem env_inv (c : Dev nD) (k : CK) : (env SV K : sProp 𝕄) ⊢ cellInv ER (ringRd SV) (K (c, k)) (kcell (c, k)) := by
  unfold env records
  iintro ⟨⟨H, -⟩, -⟩
  iapply (at_inv SV K (c, k)); iexact H
theorem env_reached (c : Dev nD) (k : CK) : (env SV K : sProp 𝕄) ⊢ reached ER (kcell (c, k)) 0 := by
  unfold env records
  iintro ⟨⟨-, H⟩, -⟩
  iapply (at_reached (F := F) (c, k)); iexact H
theorem env_lev : (env SV K : sProp 𝕄) ⊢ levAts L lv := by
  unfold env; iintro ⟨-, H⟩; iexact H

/-! ## What a device holds -/

/-- What device `c` owes with the transfers `l` still to be issued, whatever it has waited for. -/
def Ow (c : Dev nD) (l : List Xf) : sProp 𝕄 := iprop(∃ W, owes (c : Thread nD τ) (owedL c l) W)

/-- Before a transfer: the two duties it pays, the position of its send cell, the half slot it lands in. -/
def SndReady (c : Dev nD) (x : Xf) : sProp 𝕄 :=
  iprop(dutyTok ER (sndCell c x) 0 false ∗ dutyTok ER (rcvCell (peer x.1 c) x) 0 false ∗ atPos ER (sndCell c x) 0 ∅ 0 ∗ landing (F := F) (peer x.1 c) x)
/-- While it is in flight. -/
def SndSent (c : Dev nD) (x : Xf) : sProp 𝕄 := iprop(cred (tallyAt (sndCell c x) () N) ∗ atPos ER (sndCell c x) 0 ∅ 0)
/-- Its send cell closed. -/
def SndDone (c : Dev nD) (x : Xf) : sProp 𝕄 := semVal (sndCell c x) 0
/-- Before the wait of a transfer to `c`, -/
def RcvReady (c : Dev nD) (x : Xf) : sProp 𝕄 := iprop(cred (tallyAt (rcvCell c x) () N) ∗ atPos ER (rcvCell c x) 0 ∅ 0)
/-- and after it. -/
def RcvDone (c : Dev nD) (x : Xf) : sProp 𝕄 := semVal (rcvCell c x) 0

theorem slabAt_share (c : Dev nD) (d : Bool) (k : Fin 4) (j : Fin 2) :
    (slabAt SV c d k j fullShare : sProp 𝕄) ⊣⊢ iprop(slabAt SV c d k j fullShare.left ∗ slabAt SV c d k j fullShare.right) := by
  unfold slabAt; exact mPts_share c _ _

/-! ## The transfers -/

theorem sent_pay (c : Dev nD) (x : Xf) (X : Slab F) :
    ((slab x.1 x.2.1.succ x.2.2).view.loc (peer x.1 c : Thread nD τ) ↦[(slab x.1 x.2.1.succ x.2.2).view.set]{fullShare}
        (slab x.1 x.2.1.succ x.2.2).view.write (Elt F) ((slab x.1 x.2.1.succ x.2.2).view.rep X)
          ((slab x.1 x.2.1.castSucc x.2.2).view.read (Elt F) ((slab x.1 x.2.1.castSucc x.2.2).view.rep (SV (hop x.1 x.2.1.castSucc c) x.1 x.2.2))) Finset.univ : sProp 𝕄)
      ⊢ rcvPay SV (peer x.1 c) x := by
  rw [View.read_rep, mPts_of, View.read_write_univ]
  unfold rcvPay slabAt
  rw [hop_succ]

/-- A transfer issued: its source half slot lent at the left half of its share, its landing given up. -/
theorem step_send (c : Dev nD) (x : Xf) (n : Dev nD) (hn : n = peer x.1 c) (l : List Xf)
    {hsc : (slab x.1 x.2.1.succ x.2.2 : Memref sig (Dev.tc n : Thread nD τ).2.kind .vmem S256x4096 .fp8e4m3).view.ref.isScScratch = false}
    {hsrc : (slab x.1 x.2.1.castSucc x.2.2).view.WordExact} {hdst : (slab x.1 x.2.1.succ x.2.2).view.WordExact}
    {hsem : DmaTarget.Typed .vmem (.dma (rcvS x)) (.remote (Dev.tc n : Thread nD τ) (slab x.1 x.2.1.succ x.2.2) (.dma (sndS x)) hsc)}
    {α : Type} {Q : α → sProp 𝕄} {k : PUnit → Prog (TpuEff nD τ sig (Elt F) Λ₀ .tc) α} :
    iprop(env SV K ∗ SndReady c x ∗ slabAt SV c x.1 x.2.1.castSucc x.2.2 fullShare.left ∗ Ow c (x :: l))
      ⊢ iprop(((SndSent c x ∗ Ow c l) -∗ WP c (k ⟨⟩) Q)
          -∗ WP c (.op (.enqueueDma (slab x.1 x.2.1.castSucc x.2.2) (.remote (Dev.tc n : Thread nD τ) (slab x.1 x.2.1.succ x.2.2) (.dma (sndS x)) hsc) (.dma (rcvS x)) hsrc hdst hsem) k) Q) := by
  subst hn
  unfold SndReady SndSent Ow landing slabAt
  iintro ⟨#He, ⟨HtS, HtR, Hat, ⟨%X, Hd⟩⟩, Hs, ⟨%W, HO⟩⟩ Hk
  unfold mPts
  iapply (Rounds.wp_send_pointsTo 𝒱₀ ER (ringRd SV) (c : Thread nD τ) none (c' := (peer x.1 c : Thread nD τ)) (sem := .dma (rcvS x)) (sS := .dma (sndS x)) (src := slab x.1 x.2.1.castSucc x.2.2) (dst := slab x.1 x.2.1.succ x.2.2) (κ₁ := K (c, some (false, x))) (κ₂ := K (peer x.1 c, some (true, x)))
    (r₁ := 0) (r₂ := 0) (d₁ := false) (d₂ := false)
    (by rw [duties_snd]; exact Finset.mem_singleton_self _) (by rw [duties_rcv]; exact Finset.mem_singleton_self _)
    () () N (slab_credit x.1 x.2.1.succ x.2.2) (amount_snd SV c x 0 false) (amount_rcv SV (peer x.1 c) x 0 false) (owedL c l) rfl (W := W)
    (by rw [payload_snd]; exact BI.Entails.refl _)
    (by rw [payload_rcv]; exact sent_pay SV c x X)) $$ [HtS HtR Hs Hd HO]
  · isplitr; · iapply (env_inv SV K c (some (false, x))); iexact He
    isplitr; · iapply (env_inv SV K (peer x.1 c) (some (true, x))); iexact He
    isplitl [Hs]; · iexact Hs
    isplitl [Hd]; · iexact Hd
    isplitl [HO]; · iexact HO
    isplitl [HtS]; · iexact HtS
    isplitr; · iapply (env_reached SV K c (some (false, x))); iexact He
    isplitl [HtR]; · iexact HtR
    iapply (env_reached SV K (peer x.1 c) (some (true, x))); iexact He
  iintro ⟨Hc, HO⟩
  iapply Hk
  isplitl [Hc Hat]; · isplitl [Hc] <;> iassumption
  iexists W; iexact HO

/-- The wait of a transfer on its receiver: the half slot, holding what was sent. -/
theorem step_recv (c : Dev nD) (x : Xf) (l : List Xf) (hl : ∀ y ∈ l, 2 + x.2.1.val < 2 + y.2.1.val)
    {s' : Shape} {e' : EltTy} {sp' sp'' : Space} {srcw : Memref sig .tc sp' s' e'} {dstw : Memref sig .tc sp'' s' e'} (hN : dstw.view.dmaCredit = N)
    {hsrc : srcw.view.WordExact} {hdst : dstw.view.WordExact}
    {α : Type} {Q : α → sProp 𝕄} {k : PUnit → Prog (TpuEff nD τ sig (Elt F) Λ₀ .tc) α} :
    iprop(env SV K ∗ RcvReady c x ∗ Ow c l)
      ⊢ iprop(((RcvDone c x ∗ slabAt SV c x.1 x.2.1.succ x.2.2 fullShare.left ∗ slabAt SV c x.1 x.2.1.succ x.2.2 fullShare.right ∗ Ow c l) -∗ WP c (k ⟨⟩) Q)
          -∗ WP c (.op (.waitDma2 (rcvS x) srcw dstw hsrc hdst) k) Q) := by
  unfold RcvReady RcvDone Ow
  iintro ⟨#He, ⟨Hc, Hat⟩, ⟨%W, HO⟩⟩ Hk
  iapply (Rounds.wp_wait_rest_token 𝒱₀ ER (ringRd SV) (c : Thread nD τ) none (κ := K (c, some (true, x)))
      (wpE_waitDma2_eq 𝒱₀ (c : Thread nD τ) none Set.univ) (Set.mem_univ _) () (O := owedL c l) (W := W) (R := 0) (m := 0) (T := ∅)
      (by rw [Nat.zero_add, expect_rcv, hN])) $$ [Hc HO Hat]
  · isplitr; · iapply (env_inv SV K c (some (true, x))); iexact He
    isplitl [Hc]; · rw [hN]; iexact Hc
    isplitl [HO]; · iexact HO
    isplitr; · iapply (mayWait c _ (2 + x.2.1.val) (lv_rcv c x).le l hl); iapply (env_lev SV K); iexact He
    iexact Hat
  iintro ⟨HO, Hat, -, Hpay⟩
  ihave Hp := (Entails.of_eq (rest_rcv SV c x)) $$ Hpay
  imod (Rounds.cell_close ER (ringRd SV) (Set.mem_univ (K (c, some (true, x)))) (fun h => h) (R := 0 + 1) (duties_later SV (rcvCell c x))) $$ [Hat] with Hz
  · isplitr; · iapply (env_inv SV K c (some (true, x))); iexact He
    iexact Hat
  unfold rcvPay
  ihave Hp := (slabAt_share SV c x.1 x.2.1.succ x.2.2).1 $$ Hp
  icases Hp with ⟨Hl, Hr⟩
  iapply Hk
  isplitl [Hz]; · iexact Hz
  isplitl [Hl]; · iexact Hl
  isplitl [Hr]; · iexact Hr
  iexists _; iexact HO

/-- The wait of a transfer on its sender: the source lent comes back. -/
theorem step_sent (c : Dev nD) (x : Xf)
    {s' : Shape} {e' : EltTy} {sp' sp'' : Space} {srcw : Memref sig .tc sp' s' e'} {dstw : Memref sig .tc sp'' s' e'} (hN : dstw.view.dmaCredit = N)
    {hsrc : srcw.view.WordExact} {hdst : dstw.view.WordExact}
    {α : Type} {Q : α → sProp 𝕄} {k : PUnit → Prog (TpuEff nD τ sig (Elt F) Λ₀ .tc) α} :
    iprop(env SV K ∗ SndSent c x ∗ Ow c [])
      ⊢ iprop(((SndDone c x ∗ slabAt SV c x.1 x.2.1.castSucc x.2.2 fullShare.left ∗ Ow c []) -∗ WP c (k ⟨⟩) Q)
          -∗ WP c (.op (.waitDma2 (sndS x) srcw dstw hsrc hdst) k) Q) := by
  unfold SndSent SndDone Ow
  iintro ⟨#He, ⟨Hc, Hat⟩, ⟨%W, HO⟩⟩ Hk
  iapply (Rounds.wp_wait_rest_token 𝒱₀ ER (ringRd SV) (c : Thread nD τ) none (κ := K (c, some (false, x)))
      (wpE_waitDma2_eq 𝒱₀ (c : Thread nD τ) none Set.univ) (Set.mem_univ _) () (O := owedL c []) (W := W) (R := 0) (m := 0) (T := ∅)
      (by rw [Nat.zero_add, expect_snd, hN])) $$ [Hc HO Hat]
  · isplitr; · iapply (env_inv SV K c (some (false, x))); iexact He
    isplitl [Hc]; · rw [hN]; iexact Hc
    isplitl [HO]; · iexact HO
    isplitr; · iapply (mayWait c _ 0 (lv_snd c x).le [] (fun y hy => absurd hy List.not_mem_nil)); iapply (env_lev SV K); iexact He
    iexact Hat
  iintro ⟨HO, Hat, -, Hpay⟩
  ihave Hp := (Entails.of_eq (rest_snd SV c x)) $$ Hpay
  imod (Rounds.cell_close ER (ringRd SV) (Set.mem_univ (K (c, some (false, x)))) (fun h => h) (R := 0 + 1) (duties_later SV (sndCell c x))) $$ [Hat] with Hz
  · isplitr; · iapply (env_inv SV K c (some (false, x))); iexact He
    iexact Hat
  unfold sndPay
  iapply Hk
  isplitl [Hz]; · iexact Hz
  isplitl [Hp]; · iexact Hp
  iexists _; iexact HO

/-! ## The barrier -/

/-- Before the barrier: the duty device `c` pays at either neighbour, and its position at its own. -/
def BarReady (c : Dev nD) : sProp 𝕄 :=
  iprop(dutyTok ER (barCell (prv c)) 0 false ∗ dutyTok ER (barCell (nxt c)) 0 true ∗ cred (tallyAt (barCell c) () 2) ∗ atPos ER (barCell c) 0 ∅ 0)

theorem step_signal (c n b : Dev nD) (d : Bool) (hb : b = back d c) (hn : n = b) (O : CellTallies nD τ sig Unit) (W : Waits sig Unit) {k' : ℕ} (hk' : k' = 1)
    {α : Type} {Q : α → sProp 𝕄} {k : PUnit → Prog (TpuEff nD τ sig (Elt F) Λ₀ .tc) α} :
    iprop(env SV K ∗ dutyTok ER (barCell b) 0 d ∗ owes (c : Thread nD τ) (O + tallyAt (barCell b) () 1) W
        ∗ bigSep Finset.univ (fun hj : Fin 3 × Fin 2 => landing (F := F) c (d, hj)))
      ⊢ iprop((owes (c : Thread nD τ) O W -∗ WP c (k ⟨⟩) Q) -∗ WP c (.op (.semSignal (Dev.tc n : Thread nD τ) barS k') k) Q) := by
  subst hn hk' hb
  iintro ⟨#He, Ht, HO, Hl⟩ Hk
  iapply (Rounds.wp_signal 𝒱₀ ER (ringRd SV) (c : Thread nD τ) none (dst := (back d c : Thread nD τ)) (κ := K (back d c, none))
      (d := d) (by rw [duties_bar]; exact Finset.mem_univ _) (amount_bar SV (back d c) 0 d) () O rfl)
    $$ [HO Ht Hl]
  · isplitr; · iapply (env_inv SV K (back d c) none); iexact He
    isplitl [HO]; · iexact HO
    isplitl [Ht]; · iexact Ht
    isplitl [Hl]; · rw [payload_bar]; unfold barPay; rw [peer_back]; iexact Hl
    iapply (env_reached SV K (back d c) none); iexact He
  iexact Hk

/-- The wait for both neighbours: their half slots come with it. -/
theorem step_barrier (c : Dev nD) (l : List Xf) (W : Waits sig Unit) {k' : ℕ} (hk' : k' = 2)
    {α : Type} {Q : α → sProp 𝕄} {k : PUnit → Prog (TpuEff nD τ sig (Elt F) Λ₀ .tc) α} :
    iprop(env SV K ∗ cred (tallyAt (barCell c) () 2) ∗ atPos ER (barCell c) 0 ∅ 0 ∗ owes (c : Thread nD τ) (owedL c l) W)
      ⊢ iprop(((semVal (barCell c) 0 ∗ barPay (F := F) c false ∗ barPay (F := F) c true ∗ Ow c l) -∗ WP c (k ⟨⟩) Q)
        -∗ WP c (.op (.semWait barS k') k) Q) := by
  subst hk'
  iintro ⟨#He, Hc, Hat, HO⟩ Hk
  iapply (Rounds.wp_wait_rest_token 𝒱₀ ER (ringRd SV) (c : Thread nD τ) none (κ := K (c, none))
      (wpE_semWait_eq 𝒱₀ (c : Thread nD τ) none Set.univ) (Set.mem_univ _) () (O := owedL c l) (W := W) (R := 0) (m := 0) (T := ∅)
      (by rw [expect_bar])) $$ [Hc HO Hat]
  · isplitr; · iapply (env_inv SV K c none); iexact He
    isplitl [Hc]; · iexact Hc
    isplitl [HO]; · iexact HO
    isplitr; · iapply (mayWait c _ 1 (lv_bar c).le l (fun y _ => by omega)); iapply (env_lev SV K); iexact He
    iexact Hat
  iintro ⟨HO, Hat, -, Hpay⟩
  ihave Hp := (Entails.of_eq (rest_bar SV c)) $$ Hpay
  imod (Rounds.cell_close ER (ringRd SV) (Set.mem_univ (K (c, none))) (fun h => h) (R := 0 + 1) (duties_later SV (barCell c))) $$ [Hat] with Hz
  · isplitr; · iapply (env_inv SV K c none); iexact He
    iexact Hat
  icases Hp with ⟨H1, H2⟩
  iapply Hk
  isplitl [Hz]; · iexact Hz
  isplitl [H1]; · iexact H1
  isplitl [H2]; · iexact H2
  unfold Ow; iexists _; iexact HO

end Steps

end Cert.GemmProof
-- ==== Proof.Local.lean ====
/-
The steps of one device: a copy within it issued and waited for, and the loads and stores of its buffers.
-/
module

public import proofs.«01_k».proof.Proof.Steps

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

instance EC_landsIn : (EC (F := F)).LandsIn (upEmb : UEmb _ 𝕄) := by unfold EC; infer_instance

section Local

variable (SV : Dev nD → Bool → Fin 2 → Slab F) (K : Dev nD × CK → ℕ)

/-! ## Copies -/

/-- A copy in flight on the semaphore `sem`: its wait gives back the source, and the destination holding the same. -/
def Fly (c : Dev nD) (sem : DmaSem sig) (n : ℕ) {sp sp' : Space} {s : Shape} {e : EltTy} (src : Memref sig .tc sp s e) (dst : Memref sig .tc sp' s e)
    (X : s.Idx → Elt F e) : sProp 𝕄 :=
  Transfers.Flight EC (c : Thread nD τ) (.dma sem) () n iprop(mPts c dst fullShare X ∗ mPts c src fullShare X)

theorem step_copy (c : Dev nD) {sp sp' : Space} {s : Shape} {e : EltTy} {src : Memref sig .tc sp s e} {dst : Memref sig .tc sp' s e} {sem : DmaSem sig}
    {hsrc : src.view.WordExact} {hdst : dst.view.WordExact} {hsem : DmaTarget.Typed (nD := nD) (τ := τ) (p := .tc) sp (.dma sem) (.here dst)}
    (n : ℕ) (hn : dst.view.dmaCredit = n) (hn0 : 0 < n) (X Y : s.Idx → Elt F e)
    {α : Type} {Q : α → sProp 𝕄} {k : PUnit → Prog (TpuEff nD τ sig (Elt F) Λ₀ .tc) α} :
    iprop(mPts c src fullShare X ∗ mPts c dst fullShare Y ∗ semVal ((c : Thread nD τ), .dma sem) 0)
      ⊢ iprop((Fly c sem n src dst X -∗ WP c (k ⟨⟩) Q) -∗ WP c (.op (.enqueueDma src (.here dst) (.dma sem) hsrc hdst hsem) k) Q) := by
  have h := Transfers.wp_dmaLocal (defs := defs₀ (F := F)) (Q := Q) EC 𝒱₀ (c : Thread nD τ) none (src := src) (via := .same) (dst := dst) (sm := .dma sem)
    (hsrc := hsrc) (hdst := hdst) (hsem := hsem) (k := k) (q := fullShare) (fs := src.view.rep X) (fd := dst.view.rep Y) () n hn hn0 subset_rfl
  have e1 : (dst.view.loc (c : Thread nD τ) ↦[dst.view.set]{fullShare} dst.view.write (Elt F) (dst.view.rep Y) ((ReadAs.same : ReadAs (Elt F) s e s e).apply (src.view.read (Elt F) (src.view.rep X))) Finset.univ : sProp 𝕄)
      = mPts c dst fullShare X := by
    rw [mPts_of, View.read_write_univ, View.read_rep]
  rw [e1] at h
  exact h

theorem step_landed (c : Dev nD) {sp sp' : Space} {s : Shape} {e : EltTy} {src : Memref sig .tc sp s e} {dst : Memref sig .tc sp' s e} {sem : DmaSem sig}
    {sw sw' : Space} {s₁ : Shape} {e₁ : EltTy} {srcw : Memref sig .tc sw s₁ e₁} {dstw : Memref sig .tc sw' s₁ e₁}
    {hsrc : srcw.view.WordExact} {hdst : dstw.view.WordExact} (n : ℕ) (hn : dstw.view.dmaCredit = n) (X : s.Idx → Elt F e) (l : List Xf)
    (hlv : lv ((c : Thread nD τ), SemLoc.dma sem) () = 0)
    {α : Type} {Q : α → sProp 𝕄} {k : PUnit → Prog (TpuEff nD τ sig (Elt F) Λ₀ .tc) α} :
    iprop(env SV K ∗ Fly c sem n src dst X ∗ Ow c l)
      ⊢ iprop(((mPts c dst fullShare X ∗ mPts c src fullShare X ∗ semVal ((c : Thread nD τ), .dma sem) 0 ∗ Ow c l) -∗ WP c (k ⟨⟩) Q)
          -∗ WP c (.op (.waitDma2 sem srcw dstw hsrc hdst) k) Q) := by
  unfold Ow Fly
  iintro ⟨#He, HF, ⟨%W, HO⟩⟩ Hk
  iapply (Transfers.wp_waitLocalO EC 𝒱₀ (c : Thread nD τ) none () hn) $$ [HF HO]
  · isplitl [HF]; · iexact HF
    isplitl [HO]; · iexact HO
    iapply (mayWait c _ 0 hlv.le l (fun y _ => by omega)); iapply (env_lev SV K); iexact He
  iintro ⟨⟨Hd, Hs⟩, Hv, HO⟩
  iapply Hk
  isplitl [Hd]; · iexact Hd
  isplitl [Hs]; · iexact Hs
  isplitl [Hv]; · iexact Hv
  iexists _; iexact HO

/-! ## Loads and stores -/

/-- A load of a memref, its whole; -/
theorem step_load (c : Dev nD) {cs : CoreSpace} {s : Shape} {e : EltTy} (m : Memref sig .tc cs s e) (r : LoadRect s) {hl : m.view.LoadsAt r} (q : PosShare TreeShare)
    (X : s.Idx → Elt F e) {α : Type} {Q : α → sProp 𝕄} {k : (r.shape.Idx → Elt F e) → Prog (TpuEff nD τ sig (Elt F) Λ₀ .tc) α} :
    (mPts c m q X : sProp 𝕄)
      ⊢ iprop((mPts c m q X -∗ WP c (k (m.view.readAt (Elt F) r (m.view.rep X))) Q) -∗ WP c (.op (.load m r hl) k) Q) :=
  wp_load 𝒱₀ (c : Thread nD τ) none Set.univ (View.setOn_subset_set _ _)

theorem sq_set {sp : Space} {s s' : Shape} {e : EltTy} (m : Memref sig .tc sp s e) (r : Rect s) (hr : ∀ a, r.stride a = 1) (hq : r.shape.Squeezes s') :
    ((m.slice r hr).squeeze s' hq).view.set = (m.view.slice r).set := View.set_reshape _ _

/-- of a squeezed slice of it, read through the slice's rectangle; -/
theorem step_sqload (c : Dev nD) {cs : CoreSpace} {s s' : Shape} {e : EltTy} (m : Memref sig .tc cs s e) (r : Rect s) (hr : ∀ a, r.stride a = 1)
    (hq : r.shape.Squeezes s') (hc : r.shape.ShapeCasts s') (hc' : s'.ShapeCasts r.shape) {hl : m.view.LoadsAt r.toLoadRect} (q : PosShare TreeShare)
    (X : s'.Idx → Elt F e) {α : Type} {Q : α → sProp 𝕄} {k : (r.shape.Idx → Elt F e) → Prog (TpuEff nD τ sig (Elt F) Λ₀ .tc) α} :
    (mPts c ((m.slice r hr).squeeze s' hq) q X : sProp 𝕄)
      ⊢ iprop((mPts c ((m.slice r hr).squeeze s' hq) q X -∗ WP c (k (shapeCast r.shape X hc')) Q) -∗ WP c (.op (.load m r.toLoadRect hl) k) Q) := by
  have e1 : m.view.readAt (Elt F) r.toLoadRect (((m.slice r hr).squeeze s' hq).view.rep X) = shapeCast r.shape X hc' := by
    have h := Memref.read_squeeze_slice (Val := Elt F) m r hr hq hc (((m.slice r hr).squeeze s' hq).view.rep X)
    rw [View.read_rep] at h
    exact (shapeCast_shapeCast _ hc hc').symm.trans (congrArg (fun z => shapeCast r.shape z hc') h.symm)
  rw [← e1]
  exact wp_load_rect 𝒱₀ (c : Thread nD τ) none Set.univ (m := m) (r := r) (hl := hl) (k := k) (f := ((m.slice r hr).squeeze s' hq).view.rep X)
    (fun y hy => (Finset.ext_iff.mp (sq_set m r hr hq) y).2 hy)

/-- and a store of it. -/
theorem step_sqstore (c : Dev nD) {cs : CoreSpace} {s s' : Shape} {e : EltTy} (m : Memref sig .tc cs s e) (r : Rect s) (hr : ∀ a, r.stride a = 1)
    (hq : r.shape.Squeezes s') (hc : r.shape.ShapeCasts s') {w : r.shape.Idx → Elt F e}
    {hx : (m.access r).Stores Finset.univ} {hm : (Finset.univ : Finset r.shape.Idx) = Finset.univ ∨ ∀ a, r.stride a = 1}
    (X Y : s'.Idx → Elt F e) (hY : shapeCast s' w hc = Y)
    {α : Type} {Q : α → sProp 𝕄} {k : PUnit → Prog (TpuEff nD τ sig (Elt F) Λ₀ .tc) α} :
    (mPts c ((m.slice r hr).squeeze s' hq) fullShare X : sProp 𝕄)
      ⊢ iprop((mPts c ((m.slice r hr).squeeze s' hq) fullShare Y -∗ WP c (k ⟨⟩) Q) -∗ WP c (.op (.store m r w Finset.univ hx hm) k) Q) := by
  subst hY
  have e1 : ((m.access r).loc (c : Thread nD τ) ↦[((m.slice r hr).squeeze s' hq).view.set]{fullShare} (m.access r).write (Elt F) (((m.slice r hr).squeeze s' hq).view.rep X) w Finset.univ : sProp 𝕄)
      = mPts c ((m.slice r hr).squeeze s' hq) fullShare (shapeCast s' w hc) := by
    refine (mPts_of c ((m.slice r hr).squeeze s' hq) fullShare _).trans ?_
    congr 1
    rw [Memref.read_squeeze_slice (Val := Elt F) m r hr hq hc]
    congr 1
    exact View.read_write_univ (v := m.access r) _ _
  rw [← e1]
  exact wp_store (defs := defs₀ (F := F)) (Q := Q) 𝒱₀ (c : Thread nD τ) none Set.univ (m := m) (r := r) (w := w) (Mk := Finset.univ) (hx := hx) (hm := hm) (k := k)
    (S := ((m.slice r hr).squeeze s' hq).view.set) (f := ((m.slice r hr).squeeze s' hq).view.rep X)
    (fun y hy => (Finset.ext_iff.mp (sq_set m r hr hq) y).2 (View.setOn_subset_set _ _ hy))

/-- A load of a scalar. -/
theorem step_smem (c : Dev nD) {s : Shape} {e : EltTy} (m : Memref sig .tc .smem s e) (r : Rect s) {hw : (m.access r).Loads} (x : r.shape.Idx) (q : PosShare TreeShare)
    (X : s.Idx → Elt F e) {α : Type} {Q : α → sProp 𝕄} {k : Elt F e → Prog (TpuEff nD τ sig (Elt F) Λ₀ .tc) α} :
    (mPts c m q X : sProp 𝕄)
      ⊢ iprop((mPts c m q X -∗ WP c (k ((m.access r).read (Elt F) (m.view.rep X) x)) Q) -∗ WP c (smemLoadElt m r hw x k) Q) :=
  wp_load_rect (defs := defs₀ (F := F)) 𝒱₀ (c : Thread nD τ) none Set.univ (m := m) (r := r) (k := fun f => k (f x)) (S := m.view.set) (q := q) (f := m.view.rep X) (View.set_slice_subset m.view r)

end Local

end Cert.GemmProof
-- ==== Proof.State.lean ====
/-
What one device holds between the steps: the values every buffer carries, and the steps stated over them.
-/
module

public import proofs.«01_k».proof.Proof.Local

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The values -/

/-- The arguments of every device. -/
structure Vals (F : FTy → Type) where
  X : Dev nD → S1024x4096.Idx → Elt F .f32
  W : Dev nD → S4096x8192.Idx → Elt F .f32
  sx : Dev nD → S1.Idx → Elt F .f32
  sw : Dev nD → S1.Idx → Elt F .f32

theorem inb_half (d : Bool) : ∀ a, (![512 * d.toNat, 0] : Fin 2 → Nat) a + S512x4096.size a ≤ S1024x4096.size a := by revert d; decide
abbrev halfR (d : Bool) : Rect S1024x4096 := Rect.unit (s := S1024x4096) ![512 * d.toNat, 0] S512x4096.size (inb_half d)
/-- The rows of direction `d` of a device's left operand, cast to eight bits. -/
def castRows (V : Vals F) (c : Dev nD) (d : Bool) : FVec F S1x512x4096 .fp8e4m3 :=
  k0_pay1 (xM.view.readAt (Elt F) (halfR d).toLoadRect (xM.view.rep (V.X c)))

abbrev slotIx (j : Fin 2) (i : S256x4096.Idx) : S1x512x4096.Idx := fun a => match a with
  | ⟨0, _⟩ => ⟨0, Nat.one_pos⟩
  | ⟨1, _⟩ => ⟨256 * j.val + (i 0).val, by have h : (i 0).val < 256 := (i 0).isLt; show _ < 512; omega⟩
  | ⟨2, _⟩ => i 1
/-- What device `c` sends in direction `d`, half `j`. -/
def SV (V : Vals F) (c : Dev nD) (d : Bool) (j : Fin 2) : Slab F := fun i => castRows V c d (slotIx j i)

/-! ## The weight -/

def wOff (c : Dev nD) : Fin 8 → Fin 2 → ℕ
  | 0 => k0_off1 c | 1 => k0_off2 c | 2 => k0_off3 c | 3 => k0_off4 c | 4 => k0_off5 c | 5 => k0_off6 c | 6 => k0_off7 c | 7 => k0_off8 c
theorem wOff_eq (c : Dev nD) (i : Fin 8) : wOff c i = ![512 * i.val, 2048 * c.val] := by
  fin_cases i
  · exact k0_off1_eq c
  · exact k0_off2_eq c
  · exact k0_off3_eq c
  · exact k0_off4_eq c
  · exact k0_off5_eq c
  · exact k0_off6_eq c
  · exact k0_off7_eq c
  · exact k0_off8_eq c
theorem wOff_inb (c : Dev nD) (i : Fin 8) : ∀ a, wOff c i a + S512x2048.size a ≤ S4096x8192.size a := by
  rw [wOff_eq]; revert c i; decide
/-- Rows `512 i …` of the device's columns of the weight. -/
abbrev wSl (c : Dev nD) (i : Fin 8) : Memref sig .tc .hbm S512x2048 .f32 :=
  wM.slice (Rect.unit (s := S4096x8192) (wOff c i) S512x2048.size (wOff_inb c i)) (fun _ => rfl)

theorem inb_st (s : Fin 2) : ∀ a, (![s.val, 0, 0] : Fin 3 → Nat) a + S1x512x2048.size a ≤ S2x512x2048.size a := by revert s; decide
abbrev stR (s : Fin 2) : Rect S2x512x2048 := Rect.unit (s := S2x512x2048) ![s.val, 0, 0] S1x512x2048.size (inb_st s)
/-- Slot `s` of the weight's staging buffer. -/
abbrev stSl (s : Fin 2) : Memref sig .tc .vmem S512x2048 .f32 := (stM.slice (stR s) (fun _ => rfl)).squeeze S512x2048 squeezes_S1x512x2048_S512x2048

theorem inb_ws (s : Fin 2) : ∀ a, (![s.val] : Fin 1 → Nat) a + S1.size a ≤ S2.size a := by revert s; decide
abbrev wsem (s : Fin 2) : DmaSem sig := ((cc0_scratch9.slice (Rect.unit (s := S2) ![s.val] S1.size (inb_ws s))).squeeze S_ squeezes_S1_S_).sem

abbrev nW : ℕ := (stSl 0).view.dmaCredit
theorem nW_pos : 0 < nW := View.dmaCredit_pos _ (by decide)
theorem st_credit (s : Fin 2) : (stSl s).view.dmaCredit = nW := rfl

def WB (V : Vals F) (c : Dev nD) (i : Fin 8) : S512x2048.Idx → Elt F .f32 := (wSl c i).view.read (Elt F) (V.W c)

theorem casts_512_1x512 : S512x2048.ShapeCasts S1x512x2048 := by decide

/-- The eight rows blocks of the device's columns of the weight, cast to eight bits. -/
def wCast (V : Vals F) (c : Dev nD) (i : Fin 8) : FVec F S512x2048 .fp8e4m3 := k0_pay3 (shapeCast S1x512x2048 (WB V c i) casts_512_1x512)
abbrev w8Ix (x : S4096x2048.Idx) : S512x2048.Idx := fun a => match a with
  | ⟨0, _⟩ => ⟨(x 0).val % 512, Nat.mod_lt _ (by decide)⟩
  | ⟨1, _⟩ => x 1
def W8 (V : Vals F) (c : Dev nD) : S4096x2048.Idx → Elt F .fp8e4m3 := fun x =>
  wCast V c ⟨(x 0).val / 512, by have h : (x 0).val < 4096 := (x 0).isLt; omega⟩ (w8Ix x)

/-! ## The output -/

def oOff (c : Dev nD) : Fin 4 → Fin 2 → Bool → Fin 2 → ℕ
  | 0, 0, false => k0_off9 c 0#32 | 0, 0, true => k0_off10 c 0#32 | 0, 1, false => k0_off9 c 256#32 | 0, 1, true => k0_off10 c 256#32
  | 1, 0, false => k0_off11 c 3#32 0#32 | 1, 0, true => k0_off12 c 0#32 0#32 | 1, 1, false => k0_off11 c 3#32 256#32 | 1, 1, true => k0_off12 c 0#32 256#32
  | 2, 0, false => k0_off11 c 2#32 0#32 | 2, 0, true => k0_off12 c 1#32 0#32 | 2, 1, false => k0_off11 c 2#32 256#32 | 2, 1, true => k0_off12 c 1#32 256#32
  | 3, 0, false => k0_off11 c 1#32 0#32 | 3, 0, true => k0_off12 c 2#32 0#32 | 3, 1, false => k0_off11 c 1#32 256#32 | 3, 1, true => k0_off12 c 2#32 256#32
theorem oOff_eq (c : Dev nD) (k : Fin 4) (j : Fin 2) (d : Bool) : oOff c k j d = ![1024 * (hop d k c).val + 512 * d.toNat + 256 * j.val, 0] := by
  fin_cases k <;> fin_cases j <;> cases d
  · exact (k0_off9_eq c 0).trans (by revert c; decide)
  · exact (k0_off10_eq c 0).trans (by revert c; decide)
  · exact (k0_off9_eq c 1).trans (by revert c; decide)
  · exact (k0_off10_eq c 1).trans (by revert c; decide)
  · exact (k0_off11_eq c 2 0).trans (by revert c; decide)
  · exact (k0_off12_eq c 0 0).trans (by revert c; decide)
  · exact (k0_off11_eq c 2 1).trans (by revert c; decide)
  · exact (k0_off12_eq c 0 1).trans (by revert c; decide)
  · exact (k0_off11_eq c 1 0).trans (by revert c; decide)
  · exact (k0_off12_eq c 1 0).trans (by revert c; decide)
  · exact (k0_off11_eq c 1 1).trans (by revert c; decide)
  · exact (k0_off12_eq c 1 1).trans (by revert c; decide)
  · exact (k0_off11_eq c 0 0).trans (by revert c; decide)
  · exact (k0_off12_eq c 2 0).trans (by revert c; decide)
  · exact (k0_off11_eq c 0 1).trans (by revert c; decide)
  · exact (k0_off12_eq c 2 1).trans (by revert c; decide)
theorem oOff_inb (c : Dev nD) (k : Fin 4) (j : Fin 2) (d : Bool) : ∀ a, oOff c k j d a + S256x2048.size a ≤ S4096x2048.size a := by
  rw [oOff_eq]; revert c k j d; decide
/-- The rows of the result that slot `k`, half `j`, direction `d` gives. -/
abbrev oSl (c : Dev nD) (k : Fin 4) (j : Fin 2) (d : Bool) : Memref sig .tc .hbm S256x2048 .f32 :=
  outM.slice (Rect.unit (s := S4096x2048) (oOff c k j d) S256x2048.size (oOff_inb c k j d)) (fun _ => rfl)

theorem inb_os (s : Fin 4) : ∀ a, (![s.val, 0, 0] : Fin 3 → Nat) a + S1x256x2048.size a ≤ S4x256x2048.size a := by revert s; decide
abbrev osR (s : Fin 4) : Rect S4x256x2048 := Rect.unit (s := S4x256x2048) ![s.val, 0, 0] S1x256x2048.size (inb_os s)
/-- Slot `s` of the output's staging buffer. -/
abbrev osSl (s : Fin 4) : Memref sig .tc .vmem S256x2048 .f32 := (osM.slice (osR s) (fun _ => rfl)).squeeze S256x2048 squeezes_S1x256x2048_S256x2048

theorem inb_osem (s : Fin 4) : ∀ a, (![s.val] : Fin 1 → Nat) a + S1.size a ≤ S4.size a := by revert s; decide
abbrev osem (s : Fin 4) : DmaSem sig := ((cc0_scratch10.slice (Rect.unit (s := S4) ![s.val] S1.size (inb_osem s))).squeeze S_ squeezes_S1_S_).sem

abbrev nO : ℕ := (osSl 0).view.dmaCredit
theorem nO_pos : 0 < nO := View.dmaCredit_pos _ (by decide)

/-- The one index of a scalar's buffer. -/
abbrev ix1 : S1.Idx := fun a => match a with | ⟨0, _⟩ => ⟨0, Nat.one_pos⟩
theorem ix1_eq (x : S1.Idx) : x = ix1 := by
  refine funext fun a => Fin.ext ?_
  fin_cases a
  have h : (x 0).val < 1 := (x 0).isLt
  show (x 0).val = 0; omega
/-- The product of the two scales. -/
def scl (V : Vals F) (c : Dev nD) : F .f32 := k0_pay12 (V.sx c ix1) (V.sw c ix1)

theorem casts_256_1x256 : S256x4096.ShapeCasts S1x256x4096 := by decide
theorem casts_o : S256x2048.ShapeCasts S1x256x2048 := by decide

/-- A slab, as a load of its slot reads it. -/
abbrev lslab (X : Slab F) : Vec F S1x256x4096 .fp8e4m3 := shapeCast S1x256x4096 X casts_256_1x256

/-- The rows of the result on device `c` computed from slot `k`, half `j`, direction `d`. -/
def YB (V : Vals F) (c : Dev nD) (k : Fin 4) (j : Fin 2) (d : Bool) : S256x2048.Idx → Elt F .f32 :=
  shapeCast S256x2048 (k0_pay14 (scl V c) (lslab (SV V (hop d k c) d j)) (W8 V c)) shapeCasts_S1x256x2048_S256x2048

/-! ## What a device holds of them -/

section Atoms

variable (V : Vals F) (K : Dev nD × CK → ℕ) (c : Dev nD)

def WBlk (i : Fin 8) : sProp 𝕄 := mPts c (wSl c i) fullShare (WB V c i)
def StIdle (s : Fin 2) : sProp 𝕄 := iprop((∃ X, mPts (F := F) c (stSl s) fullShare X) ∗ semVal ((c : Thread nD τ), .dma (wsem s)) 0)
def StFull (s : Fin 2) (i : Fin 8) : sProp 𝕄 := iprop(mPts c (stSl s) fullShare (WB V c i) ∗ semVal ((c : Thread nD τ), .dma (wsem s)) 0)
def WFly (s : Fin 2) (i : Fin 8) : sProp 𝕄 := Fly c (wsem s) nW (wSl c i) (stSl s) (WB V c i)
/-- The weight's buffer, its first `n` row blocks written. -/
def W8P (n : ℕ) : sProp 𝕄 := iprop(∃ f : S4096x2048.Idx → Elt F .fp8e4m3, mPts c w8M fullShare f ∗ ⌜∀ x, (x 0).val < 512 * n → f x = W8 V c x⌝)
def W8F : sProp 𝕄 := mPts c w8M fullShare (W8 V c)

/-- A slab as the compute steps read it, -/
def SlR (k : Fin 4) (j : Fin 2) (d : Bool) : sProp 𝕄 := slabAt (SV V) c d k j fullShare.right
/-- and as the transfers read it. -/
def SlL (k : Fin 4) (j : Fin 2) (d : Bool) : sProp 𝕄 := slabAt (SV V) c d k j fullShare.left

def OIdle (s : Fin 4) : sProp 𝕄 := iprop(∃ X, mPts (F := F) c (osSl s) fullShare X)
def OSem (s : Fin 4) : sProp 𝕄 := (semVal ((c : Thread nD τ), .dma (osem s)) 0 : sProp 𝕄)
def OSto (s k : Fin 4) (j : Fin 2) (d : Bool) : sProp 𝕄 := mPts c (osSl s) fullShare (YB V c k j d)
def OFly (s k : Fin 4) (j : Fin 2) (d : Bool) : sProp 𝕄 := Fly c (osem s) nO (osSl s) (oSl c k j d) (YB V c k j d)
def Out0 (k : Fin 4) (j : Fin 2) (d : Bool) : sProp 𝕄 := iprop(∃ X, mPts (F := F) c (oSl c k j d) fullShare X)
def OutY (k : Fin 4) (j : Fin 2) (d : Bool) : sProp 𝕄 := mPts c (oSl c k j d) fullShare (YB V c k j d)

def Sx : sProp 𝕄 := mPts c sxM fullShare (V.sx c)
def Sw : sProp 𝕄 := mPts c swM fullShare (V.sw c)

theorem rep_whole {b : Ref sig .tc} (X : b.ty.Contents (Elt F)) : (View.whole b : View sig .tc _ _ _).rep X = X :=
  funext fun y => (View.rep_emb (View.whole b) X y)

/-! ## The weight's steps -/

theorem s_fetch (s : Fin 2) (i : Fin 8) {hsrc : (wSl c i).view.WordExact} {hdst : (stSl s).view.WordExact}
    {hsem : DmaTarget.Typed (nD := nD) (τ := τ) (p := .tc) .hbm (.dma (wsem s)) (.here (stSl s))} {α : Type} {Q : α → sProp 𝕄} {k : PUnit → Prog (TpuEff nD τ sig (Elt F) Λ₀ .tc) α} :
    iprop(WBlk V c i ∗ StIdle (F := F) c s) ⊢ iprop((WFly V c s i -∗ WP c (k ⟨⟩) Q)
      -∗ WP c (.op (.enqueueDma (wSl c i) (.here (stSl s)) (.dma (wsem s)) hsrc hdst hsem) k) Q) := by
  unfold WBlk StIdle WFly
  iintro ⟨Hw, ⟨⟨%X, Hs⟩, Hv⟩⟩ Hk
  iapply (step_copy c nW (st_credit s) nW_pos (WB V c i) X) $$ [Hw Hs Hv]
  · isplitl [Hw]; · iexact Hw
    isplitl [Hs] <;> iassumption
  iexact Hk

theorem wsem_lv (s : Fin 2) : lv ((c : Thread nD τ), SemLoc.dma (wsem s)) () = 0 := by
  refine lv_other c ?_
  rintro (_ | ⟨_ | _, x⟩) h
  · cases h
  · exact absurd (SemLoc.dma.inj h) (by revert s x; decide)
  · exact absurd (SemLoc.dma.inj h) (by revert s x; decide)
theorem osem_lv (s : Fin 4) : lv ((c : Thread nD τ), SemLoc.dma (osem s)) () = 0 := by
  refine lv_other c ?_
  rintro (_ | ⟨_ | _, x⟩) h
  · cases h
  · exact absurd (SemLoc.dma.inj h) (by revert s x; decide)
  · exact absurd (SemLoc.dma.inj h) (by revert s x; decide)

theorem s_wland (s : Fin 2) (i : Fin 8) (l : List Xf) {sw sw' : Space} {s₁ : Shape} {e₁ : EltTy} {srcw : Memref sig .tc sw s₁ e₁} {dstw : Memref sig .tc sw' s₁ e₁}
    {hsrc : srcw.view.WordExact} {hdst : dstw.view.WordExact} (hn : dstw.view.dmaCredit = nW) {α : Type} {Q : α → sProp 𝕄} {k : PUnit → Prog (TpuEff nD τ sig (Elt F) Λ₀ .tc) α} :
    iprop(env (SV V) K ∗ WFly V c s i ∗ Ow c l) ⊢ iprop(((StFull V c s i ∗ WBlk V c i ∗ Ow c l) -∗ WP c (k ⟨⟩) Q)
      -∗ WP c (.op (.waitDma2 (wsem s) srcw dstw hsrc hdst) k) Q) := by
  unfold WFly StFull WBlk
  iintro ⟨#He, HF, HO⟩ Hk
  iapply (step_landed (SV V) K c nW hn (WB V c i) l (wsem_lv c s)) $$ [HF HO]
  · isplitr; · iexact He
    isplitl [HF] <;> iassumption
  iintro ⟨Hd, Hs, Hv, HO⟩
  iapply Hk
  isplitl [Hd Hv]; · isplitl [Hd] <;> iassumption
  isplitl [Hs] <;> iassumption

/-- The load of a staged block: the slot may be written again. -/
theorem s_stload (s : Fin 2) (i : Fin 8) {hl : stM.view.LoadsAt (stR s).toLoadRect} {α : Type} {Q : α → sProp 𝕄} {k : (S1x512x2048.Idx → Elt F .f32) → Prog (TpuEff nD τ sig (Elt F) Λ₀ .tc) α} :
    (StFull V c s i : sProp 𝕄) ⊢ iprop((StIdle (F := F) c s -∗ WP c (k (shapeCast S1x512x2048 (WB V c i) casts_512_1x512)) Q)
      -∗ WP c (.op (.load stM (stR s).toLoadRect hl) k) Q) := by
  unfold StFull StIdle
  iintro ⟨Hs, Hv⟩ Hk
  iapply (step_sqload c stM (stR s) (fun _ => rfl) squeezes_S1x512x2048_S512x2048 shapeCasts_S1x512x2048_S512x2048 casts_512_1x512 fullShare (WB V c i)) $$ Hs
  iintro Hs
  iapply Hk
  isplitl [Hs]; · iexists _; iexact Hs
  iexact Hv

theorem s_w8dead (n : ℕ) (r : LoadRect S4096x2048) {hl : w8M.view.LoadsAt r} {α : Type} {Q : α → sProp 𝕄} {k : (r.shape.Idx → Elt F .fp8e4m3) → Prog (TpuEff nD τ sig (Elt F) Λ₀ .tc) α} :
    (W8P V c n : sProp 𝕄) ⊢ iprop((∀ v, W8P V c n -∗ WP c (k v) Q) -∗ WP c (.op (.load w8M r hl) k) Q) := by
  unfold W8P
  iintro ⟨%f, Hf, %hf⟩ Hk
  iapply (step_load c w8M r fullShare f) $$ Hf
  iintro Hf
  iapply Hk
  iexists f
  isplitl [Hf]; · iexact Hf
  ipureintro; exact hf

theorem inb_w8 (i : Fin 8) : ∀ a, (![512 * i.val, 0] : Fin 2 → Nat) a + S512x2048.size a ≤ S4096x2048.size a := by revert i; decide
abbrev w8R (i : Fin 8) : Rect S4096x2048 := Rect.unit (s := S4096x2048) ![512 * i.val, 0] S512x2048.size (inb_w8 i)

theorem w8_write (i : Fin 8) (f : S4096x2048.Idx → Elt F .fp8e4m3) (hf : ∀ x, (x 0).val < 512 * i.val → f x = W8 V c x)
    (x : S4096x2048.Idx) (hx : (x 0).val < 512 * (i.val + 1)) :
    (w8M.access (w8R i)).write (Elt F) f (wCast V c i) Finset.univ x = W8 V c x := by
  by_cases h : (x 0).val < 512 * i.val
  · rw [View.write_of_not_mem]; · exact hf x h
    intro hm
    have hm' := View.setOn_subset_set _ _ hm
    rw [View.set_slice_whole] at hm'
    have := (Rect.mem_set_unit.1 hm') 0
    have h0 : 512 * i.val ≤ (x 0).val := this.1
    omega
  · have e : x = (w8M.access (w8R i)).emb (w8Ix x) := by
      refine funext fun a => Fin.ext ?_
      fin_cases a
      · show (x 0).val = 512 * i.val + 1 * ((x 0).val % 512); omega
      · show (x 1).val = 0 + 1 * (x 1).val; omega
    have hi : (⟨(x 0).val / 512, by have h : (x 0).val < 4096 := (x 0).isLt; omega⟩ : Fin 8) = i := Fin.ext (by show (x 0).val / 512 = i.val; omega)
    have h2 : (w8M.access (w8R i)).write (Elt F) f (wCast V c i) Finset.univ ((w8M.access (w8R i)).emb (w8Ix x)) = wCast V c i (w8Ix x) :=
      View.write_emb_of_mem (v := w8M.access (w8R i)) f (wCast V c i) (Finset.mem_univ _)
    unfold W8
    rw [hi, ← h2, ← e]

/-- A store through a memref held whole. -/
theorem step_store {cs : CoreSpace} {s : Shape} {e : EltTy} (m : Memref sig .tc cs s e) (r : Rect s) {w : r.shape.Idx → Elt F e}
    {hx : (m.access r).Stores Finset.univ} {hm : (Finset.univ : Finset r.shape.Idx) = Finset.univ ∨ ∀ a, r.stride a = 1} (X : s.Idx → Elt F e)
    {α : Type} {Q : α → sProp 𝕄} {k : PUnit → Prog (TpuEff nD τ sig (Elt F) Λ₀ .tc) α} :
    (mPts c m fullShare X : sProp 𝕄)
      ⊢ iprop((mPts c m fullShare (m.view.read (Elt F) ((m.access r).write (Elt F) (m.view.rep X) w Finset.univ)) -∗ WP c (k ⟨⟩) Q) -∗ WP c (.op (.store m r w Finset.univ hx hm) k) Q) := by
  rw [← mPts_of]
  exact wp_store (defs := defs₀ (F := F)) (Q := Q) 𝒱₀ (c : Thread nD τ) none Set.univ (m := m) (r := r) (w := w) (Mk := Finset.univ) (hx := hx) (hm := hm) (k := k)
    (S := m.view.set) (f := m.view.rep X) (fun y hy => View.set_slice_subset m.view r (View.setOn_subset_set _ _ hy))

theorem w8_stored (i : Fin 8) (f : S4096x2048.Idx → Elt F .fp8e4m3) (hf : ∀ x, (x 0).val < 512 * i.val → f x = W8 V c x)
    (x : S4096x2048.Idx) (hx : (x 0).val < 512 * (i.val + 1)) :
    w8M.view.read (Elt F) ((w8M.access (w8R i)).write (Elt F) (w8M.view.rep f) (wCast V c i) Finset.univ) x = W8 V c x := by
  have e : w8M.view.rep f = f := rep_whole (b := cc0_scratch3) f
  have h := w8_write V c i f hf x hx
  rw [e]
  exact (congrFun (View.read_whole (Val := Elt F) cc0_scratch3 ((w8M.access (w8R i)).write (Elt F) f (wCast V c i) Finset.univ)) x).trans h

theorem s_w8store (i : Fin 8) {hx : (w8M.access (w8R i)).Stores Finset.univ} {hm : (Finset.univ : Finset (w8R i).shape.Idx) = Finset.univ ∨ ∀ a, (w8R i).stride a = 1}
    {α : Type} {Q : α → sProp 𝕄} {k : PUnit → Prog (TpuEff nD τ sig (Elt F) Λ₀ .tc) α} :
    (W8P V c i.val : sProp 𝕄) ⊢ iprop((W8P V c (i.val + 1) -∗ WP c (k ⟨⟩) Q) -∗ WP c (.op (.store w8M (w8R i) (wCast V c i) Finset.univ hx hm) k) Q) := by
  unfold W8P
  iintro ⟨%f, Hf, %hf⟩ Hk
  iapply (step_store c w8M (w8R i) f) $$ Hf
  iintro Hf
  iapply Hk
  iexists (w8M.view.read (Elt F) ((w8M.access (w8R i)).write (Elt F) (w8M.view.rep f) (wCast V c i) Finset.univ))
  isplitl [Hf]; · iexact Hf
  ipureintro
  exact w8_stored V c i f hf

theorem w8_done : (W8P V c 8 : sProp 𝕄) ⊢ W8F V c := by
  unfold W8P W8F
  iintro ⟨%f, Hf, %hf⟩
  have e : f = W8 V c := funext fun x => hf x (by have h : (x 0).val < 4096 := (x 0).isLt; omega)
  subst e; iexact Hf

end Atoms

end Cert.GemmProof
-- ==== Proof.Outs.lean ====
/-
The buffers held whole are held slot by slot, block by block, and back; the rest of the steps of one device.
-/
module

public import proofs.«01_k».proof.Proof.State

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Slots and blocks -/

section Blocks

variable (c : Dev nD)

theorem slab_set (d : Bool) (k : Fin 4) (j : Fin 2) (x : S4x512x4096.Idx) :
    x ∈ (slabR k j).set ↔ (x 0).val = k.val ∧ 256 * j.val ≤ (x 1).val ∧ (x 1).val < 256 * j.val + 256 := by
  rw [Rect.mem_set_unit]
  constructor
  · intro h
    have h0 := h 0; have h1 := h 1
    have a0 : k.val ≤ (x 0).val ∧ (x 0).val < k.val + 1 := h0
    have a1 : 256 * j.val ≤ (x 1).val ∧ (x 1).val < 256 * j.val + 256 := h1
    exact ⟨by omega, a1⟩
  · rintro ⟨h0, h1⟩ a
    fin_cases a
    · show k.val ≤ (x 0).val ∧ (x 0).val < k.val + 1; omega
    · exact h1
    · have h : (x 2).val < 4096 := (x 2).isLt
      show 0 ≤ (x 2).val ∧ (x 2).val < 0 + 4096; omega

theorem slab_disj (b b' : Fin 4 × Fin 2) (h : b ≠ b') : Disjoint (slabR b.1 b.2).set (slabR b'.1 b'.2).set := by
  rw [Finset.disjoint_left]
  intro x hx hx'
  rw [slab_set false] at hx hx'
  exact h (Prod.ext (Fin.ext (by omega)) (Fin.ext (by omega)))
theorem slab_cover : (Finset.univ : Finset (Fin 4 × Fin 2)).biUnion (fun b => (slabR b.1 b.2).set) = Finset.univ := by
  refine Finset.eq_univ_iff_forall.2 fun x => Finset.mem_biUnion.2 ⟨(x 0, ⟨(x 1).val / 256, ?_⟩), Finset.mem_univ _, ?_⟩
  · have h : (x 1).val < 512 := (x 1).isLt
    omega
  · rw [slab_set false]
    refine ⟨rfl, ?_, ?_⟩
    · show 256 * ((x 1).val / 256) ≤ (x 1).val; omega
    · show (x 1).val < 256 * ((x 1).val / 256) + 256; omega

/-- The set of a squeezed slice of a whole buffer. -/
theorem sq_set_whole (b : Ref sig .tc) {s' : Shape} (r : Rect b.ty.shape) (hr : ∀ a, r.stride a = 1) (hq : r.shape.Squeezes s') :
    (((Memref.whole b).slice r hr).squeeze s' hq).view.set = r.set :=
  (sq_set (Memref.whole b) r hr hq).trans (View.set_slice_whole b r)

/-- A buffer at contents read through a squeezed slice. -/
theorem sq_pts (b : Ref sig .tc) {s' : Shape} (r : Rect b.ty.shape) (hr : ∀ a, r.stride a = 1) (hq : r.shape.Squeezes s') (q : PosShare TreeShare)
    (f : b.ty.Contents (Elt F)) :
    ((Memref.whole b).view.loc (c : Thread nD τ) ↦[r.set]{q} f : sProp 𝕄)
      = mPts c (((Memref.whole b).slice r hr).squeeze s' hq) q ((((Memref.whole b).slice r hr).squeeze s' hq).view.read (Elt F) f) := by
  rw [← mPts_of, sq_set_whole]
theorem sl_pts (b : Ref sig .tc) (r : Rect b.ty.shape) (hr : ∀ a, r.stride a = 1) (q : PosShare TreeShare)
    (f : b.ty.Contents (Elt F)) :
    ((Memref.whole b).view.loc (c : Thread nD τ) ↦[r.set]{q} f : sProp 𝕄)
      = mPts c ((Memref.whole b).slice r hr) q (((Memref.whole b).slice r hr).view.read (Elt F) f) := by
  rw [← mPts_of]
  rw [show ((Memref.whole b).slice r hr).view.set = r.set from View.set_slice_whole b r]

theorem whole_pts (b : Ref sig .tc) (q : PosShare TreeShare) (f : b.ty.Contents (Elt F)) :
    (mPts c (Memref.whole b) q f : sProp 𝕄) = ((Memref.whole b).view.loc (c : Thread nD τ) ↦{q} f) := by
  unfold mPts
  rw [show (Memref.whole b : Memref sig .tc _ _ _).view.rep f = f from rep_whole (b := b) f, show (Memref.whole b : Memref sig .tc _ _ _).view.set = Finset.univ from View.set_whole b]

/-- A squeezed slice at anything is its elements of the buffer at something. -/
theorem sq_pts_ex (b : Ref sig .tc) {s' : Shape} (r : Rect b.ty.shape) (hr : ∀ a, r.stride a = 1) (hq : r.shape.Squeezes s') :
    (iprop(∃ X, mPts (F := F) c (((Memref.whole b).slice r hr).squeeze s' hq) fullShare X) : sProp 𝕄)
      ⊢ iprop(∃ f, (Memref.whole b).view.loc (c : Thread nD τ) ↦[r.set]{fullShare} f) := by
  iintro ⟨%X, H⟩
  have e := sq_pts (F := F) c b r hr hq fullShare ((((Memref.whole b).slice r hr).squeeze s' hq).view.rep X)
  rw [View.read_rep] at e
  iexists ((((Memref.whole b).slice r hr).squeeze s' hq).view.rep X)
  iapply (Entails.of_eq e.symm)
  iexact H

section Families

variable {B : Type} [Fintype B] [DecidableEq B] (b : Ref sig .tc) (r : B → Rect b.ty.shape) (hr : ∀ x a, (r x).stride a = 1)
  (hd : ∀ x x', x ≠ x' → Disjoint (r x).set (r x').set) (hc : Finset.univ.biUnion (fun x => (r x).set) = Finset.univ)

include hd hc in
/-- A buffer held whole is held by squeezed slices that cover it, -/
theorem split_sq {s' : Shape} (hq : ∀ x, (r x).shape.Squeezes s') (f : b.ty.Contents (Elt F)) :
    (mPts c (Memref.whole b) fullShare f : sProp 𝕄) = bigSep Finset.univ fun x : B =>
      mPts c (((Memref.whole b).slice (r x) (hr x)).squeeze s' (hq x)) fullShare ((((Memref.whole b).slice (r x) (hr x)).squeeze s' (hq x)).view.read (Elt F) f) := by
  rw [whole_pts c b]
  rw [Ring.pointsTo_blocks (fun x : B => (r x).set) hd hc]
  exact congrArg (bigSep Finset.univ) (funext fun x => sq_pts c b (r x) (hr x) (hq x) fullShare f)

include hd hc in
/-- and by slices; -/
theorem split_sl (f : b.ty.Contents (Elt F)) :
    (mPts c (Memref.whole b) fullShare f : sProp 𝕄) = bigSep Finset.univ fun x : B =>
      mPts c ((Memref.whole b).slice (r x) (hr x)) fullShare (((Memref.whole b).slice (r x) (hr x)).view.read (Elt F) f) := by
  rw [whole_pts c b]
  rw [Ring.pointsTo_blocks (fun x : B => (r x).set) hd hc]
  exact congrArg (bigSep Finset.univ) (funext fun x => sl_pts c b (r x) (hr x) fullShare f)

include hd hc in
/-- and squeezed slices held at anything make the buffer at something. -/
theorem join_sq {s' : Shape} (hq : ∀ x, (r x).shape.Squeezes s') :
    bigSep Finset.univ (fun x : B => iprop(∃ X, mPts (F := F) c (((Memref.whole b).slice (r x) (hr x)).squeeze s' (hq x)) fullShare X))
      ⊢ (iprop(∃ g, (Memref.whole b).view.loc (c : Thread nD τ) ↦{fullShare} g) : sProp 𝕄) := by
  have h := Ring.pointsTo_blocks_join_exists (Ix := Unit) (Name := ℕ) (U := UU) (Lvl := ℕ) (ℓ := (Memref.whole b).view.loc (c : Thread nD τ)) (q := fullShare) (fun x : B => (r x).set) hd hc (View.junk (Val := Elt F) (Memref.whole b).view)
  exact .trans (bigSep_mono fun x _ => sq_pts_ex c b (r x) (hr x) (hq x)) h

end Families

/-! ### The two buffers of the left operand -/

theorem slabs_split (d : Bool) (g : S4x512x4096.Idx → Elt F .fp8e4m3) :
    (mPts c (bufM d) fullShare g : sProp 𝕄) = bigSep Finset.univ fun b : Fin 4 × Fin 2 => mPts c (slab d b.1 b.2) fullShare ((slab d b.1 b.2).view.read (Elt F) ((bufM d).view.rep g)) := by
  cases d
  · rw [show (bufM false).view.rep g = g from rep_whole (b := cc0_scratch0) g]
    exact split_sq c cc0_scratch0 (fun b : Fin 4 × Fin 2 => slabR b.1 b.2) (fun _ _ => rfl) slab_disj slab_cover (fun _ => squeezes_S1x256x4096_S256x4096) g
  · rw [show (bufM true).view.rep g = g from rep_whole (b := cc0_scratch1) g]
    exact split_sq c cc0_scratch1 (fun b : Fin 4 × Fin 2 => slabR b.1 b.2) (fun _ _ => rfl) slab_disj slab_cover (fun _ => squeezes_S1x256x4096_S256x4096) g

theorem slabs_join (d : Bool) :
    bigSep Finset.univ (fun b : Fin 4 × Fin 2 => iprop(∃ X, mPts (F := F) c (slab d b.1 b.2) fullShare X))
      ⊢ (iprop(∃ g, (bufM d).view.loc (c : Thread nD τ) ↦{fullShare} g) : sProp 𝕄) := by
  cases d
  · exact join_sq c cc0_scratch0 (fun b : Fin 4 × Fin 2 => slabR b.1 b.2) (fun _ _ => rfl) slab_disj slab_cover (fun _ => squeezes_S1x256x4096_S256x4096)
  · exact join_sq c cc0_scratch1 (fun b : Fin 4 × Fin 2 => slabR b.1 b.2) (fun _ _ => rfl) slab_disj slab_cover (fun _ => squeezes_S1x256x4096_S256x4096)

/-! ### The staging buffers -/

theorem st_disj (s s' : Fin 2) (h : s ≠ s') : Disjoint (stR s).set (stR s').set :=
  Rect.unit_disjoint 0 (by
    have : s.val ≠ s'.val := fun e => h (Fin.ext e)
    show s.val + 1 ≤ s'.val ∨ s'.val + 1 ≤ s.val
    omega)
theorem st_cover : (Finset.univ : Finset (Fin 2)).biUnion (fun s => (stR s).set) = Finset.univ := by
  refine Finset.eq_univ_iff_forall.2 fun x => Finset.mem_biUnion.2 ⟨x 0, Finset.mem_univ _, Rect.mem_set_unit.2 fun a => ?_⟩
  fin_cases a
  · show (x 0).val ≤ (x 0).val ∧ (x 0).val < (x 0).val + 1; omega
  · have h : (x 1).val < 512 := (x 1).isLt
    show 0 ≤ (x 1).val ∧ (x 1).val < 0 + 512; omega
  · have h : (x 2).val < 2048 := (x 2).isLt
    show 0 ≤ (x 2).val ∧ (x 2).val < 0 + 2048; omega
theorem os_disj (s s' : Fin 4) (h : s ≠ s') : Disjoint (osR s).set (osR s').set :=
  Rect.unit_disjoint 0 (by
    have : s.val ≠ s'.val := fun e => h (Fin.ext e)
    show s.val + 1 ≤ s'.val ∨ s'.val + 1 ≤ s.val
    omega)
theorem os_cover : (Finset.univ : Finset (Fin 4)).biUnion (fun s => (osR s).set) = Finset.univ := by
  refine Finset.eq_univ_iff_forall.2 fun x => Finset.mem_biUnion.2 ⟨x 0, Finset.mem_univ _, Rect.mem_set_unit.2 fun a => ?_⟩
  fin_cases a
  · show (x 0).val ≤ (x 0).val ∧ (x 0).val < (x 0).val + 1; omega
  · have h : (x 1).val < 256 := (x 1).isLt
    show 0 ≤ (x 1).val ∧ (x 1).val < 0 + 256; omega
  · have h : (x 2).val < 2048 := (x 2).isLt
    show 0 ≤ (x 2).val ∧ (x 2).val < 0 + 2048; omega

theorem st_split (g : S2x512x2048.Idx → Elt F .f32) :
    (mPts c stM fullShare g : sProp 𝕄) = bigSep Finset.univ fun s : Fin 2 => mPts c (stSl s) fullShare ((stSl s).view.read (Elt F) g) :=
  split_sq c cc0_scratch2 stR (fun _ _ => rfl) st_disj st_cover (fun _ => squeezes_S1x512x2048_S512x2048) g
theorem st_join : bigSep Finset.univ (fun s : Fin 2 => iprop(∃ X, mPts (F := F) c (stSl s) fullShare X))
      ⊢ (iprop(∃ g, stM.view.loc (c : Thread nD τ) ↦{fullShare} g) : sProp 𝕄) :=
  join_sq c cc0_scratch2 stR (fun _ _ => rfl) st_disj st_cover (fun _ => squeezes_S1x512x2048_S512x2048)
theorem os_split (g : S4x256x2048.Idx → Elt F .f32) :
    (mPts c osM fullShare g : sProp 𝕄) = bigSep Finset.univ fun s : Fin 4 => mPts c (osSl s) fullShare ((osSl s).view.read (Elt F) g) :=
  split_sq c cc0_scratch4 osR (fun _ _ => rfl) os_disj os_cover (fun _ => squeezes_S1x256x2048_S256x2048) g
theorem os_join : bigSep Finset.univ (fun s : Fin 4 => iprop(∃ X, mPts (F := F) c (osSl s) fullShare X))
      ⊢ (iprop(∃ g, osM.view.loc (c : Thread nD τ) ↦{fullShare} g) : sProp 𝕄) :=
  join_sq c cc0_scratch4 osR (fun _ _ => rfl) os_disj os_cover (fun _ => squeezes_S1x256x2048_S256x2048)

/-! ### The weight -/

theorem w_set (i : Fin 8) (x : S4096x8192.Idx) :
    x ∈ (Rect.unit (s := S4096x8192) (wOff c i) S512x2048.size (wOff_inb c i)).set
      ↔ (512 * i.val ≤ (x 0).val ∧ (x 0).val < 512 * i.val + 512) ∧ (2048 * c.val ≤ (x 1).val ∧ (x 1).val < 2048 * c.val + 2048) := by
  rw [Rect.mem_set_unit]
  have h0 : wOff c i 0 = 512 * i.val := congrFun (wOff_eq c i) 0
  have h1 : wOff c i 1 = 2048 * c.val := congrFun (wOff_eq c i) 1
  constructor
  · intro h
    have a0 := h 0; have a1 := h 1
    rw [h0] at a0; rw [h1] at a1
    exact ⟨a0, a1⟩
  · rintro ⟨a0, a1⟩ a
    fin_cases a
    · show wOff c i 0 ≤ _ ∧ _ < wOff c i 0 + 512
      rw [h0]; exact a0
    · show wOff c i 1 ≤ _ ∧ _ < wOff c i 1 + 2048
      rw [h1]; exact a1

/-- The elements of the weight the device reads. -/
def wSet : Finset S4096x8192.Idx := Finset.univ.biUnion fun i : Fin 8 => (Rect.unit (s := S4096x8192) (wOff c i) S512x2048.size (wOff_inb c i)).set

theorem w_split (V : Vals F) :
    (mPts c wM fullShare (V.W c) : sProp 𝕄)
      ⊣⊢ iprop((bigSep Finset.univ fun i : Fin 8 => WBlk V c i) ∗ (wM.view.loc (c : Thread nD τ) ↦[Finset.univ \ wSet c]{fullShare} V.W c)) := by
  rw [whole_pts c main_arg1]
  have e : (wM.view.loc (c : Thread nD τ) ↦[wSet c]{fullShare} V.W c : sProp 𝕄) = bigSep Finset.univ fun i : Fin 8 => WBlk V c i := by
    unfold wSet
    rw [pointsTo_biUnion Finset.univ _ (fun i _ i' _ h => by
      rw [Finset.disjoint_left]
      intro x hx hx'
      rw [w_set] at hx hx'
      exact h (Fin.ext (by omega)))]
    exact congrArg (bigSep Finset.univ) (funext fun i => sl_pts c main_arg1 _ (fun _ => rfl) fullShare (V.W c))
  rw [← e]
  exact pointsTo_split_subset (Finset.subset_univ _)

/-! ### The result -/

/-- The rows a slot gives: the device they belong to, the direction and the half say which. -/
abbrev OT : Type := Fin 4 × Fin 2 × Bool

theorem o_set (t : OT) (x : S4096x2048.Idx) :
    x ∈ (Rect.unit (s := S4096x2048) (oOff c t.1 t.2.1 t.2.2) S256x2048.size (oOff_inb c t.1 t.2.1 t.2.2)).set
      ↔ 1024 * (hop t.2.2 t.1 c).val + 512 * t.2.2.toNat + 256 * t.2.1.val ≤ (x 0).val
        ∧ (x 0).val < 1024 * (hop t.2.2 t.1 c).val + 512 * t.2.2.toNat + 256 * t.2.1.val + 256 := by
  rw [Rect.mem_set_unit]
  have h0 : oOff c t.1 t.2.1 t.2.2 0 = 1024 * (hop t.2.2 t.1 c).val + 512 * t.2.2.toNat + 256 * t.2.1.val := congrFun (oOff_eq c t.1 t.2.1 t.2.2) 0
  have h1 : oOff c t.1 t.2.1 t.2.2 1 = 0 := congrFun (oOff_eq c t.1 t.2.1 t.2.2) 1
  constructor
  · intro h
    have a0 := h 0
    rw [h0] at a0
    exact a0
  · intro a0 a
    fin_cases a
    · show oOff c t.1 t.2.1 t.2.2 0 ≤ _ ∧ _ < oOff c t.1 t.2.1 t.2.2 0 + 256
      rw [h0]; exact a0
    · have h : (x 1).val < 2048 := (x 1).isLt
      show oOff c t.1 t.2.1 t.2.2 1 ≤ (x 1).val ∧ (x 1).val < oOff c t.1 t.2.1 t.2.2 1 + 2048
      rw [h1]; omega

set_option backward.proofsInPublic true in
/-- The slot in which the rows of device `e` pass in direction `d`. -/
def slotOf (d : Bool) (e c : Dev nD) : Fin 4 :=
  if d then ⟨(e.val + (4 - c.val)) % 4, Nat.mod_lt _ (by decide)⟩ else ⟨(c.val + (4 - e.val)) % 4, Nat.mod_lt _ (by decide)⟩
theorem hop_slotOf (d : Bool) (e c : Dev nD) : hop d (slotOf d e c) c = e := by revert d e c; decide
theorem slotOf_hop (d : Bool) (k : Fin 4) (c : Dev nD) : slotOf d (hop d k c) c = k := by revert d k c; decide

/-- The row block of the result, by its number. -/
def blkOf (n : Fin 16) : OT :=
  (slotOf (decide (n.val / 2 % 2 = 1)) ⟨n.val / 4, by have := n.isLt; show n.val / 4 < 4; omega⟩ c, ⟨n.val % 2, Nat.mod_lt _ (by decide)⟩, decide (n.val / 2 % 2 = 1))
theorem blkOf_eq (n : Fin 16) : 1024 * (hop (blkOf c n).2.2 (blkOf c n).1 c).val + 512 * (blkOf c n).2.2.toNat + 256 * (blkOf c n).2.1.val = 256 * n.val := by
  revert c n; decide
theorem blkOf_of (n : Fin 16) (t : OT) (h : 1024 * (hop t.2.2 t.1 c).val + 512 * t.2.2.toNat + 256 * t.2.1.val = 256 * n.val) : blkOf c n = t := by
  revert c n t; decide

theorem o_disj (t t' : OT) (h : t ≠ t') :
    Disjoint (Rect.unit (s := S4096x2048) (oOff c t.1 t.2.1 t.2.2) S256x2048.size (oOff_inb c t.1 t.2.1 t.2.2)).set
      (Rect.unit (s := S4096x2048) (oOff c t'.1 t'.2.1 t'.2.2) S256x2048.size (oOff_inb c t'.1 t'.2.1 t'.2.2)).set := by
  rw [Finset.disjoint_left]
  intro x hx hx'
  rw [o_set] at hx hx'
  have hn : (x 0).val < 4096 := (x 0).isLt
  have e := blkOf_of c ⟨(x 0).val / 256, by omega⟩ t (by show _ = 256 * ((x 0).val / 256); omega)
  have e' := blkOf_of c ⟨(x 0).val / 256, by omega⟩ t' (by show _ = 256 * ((x 0).val / 256); omega)
  exact h (e.symm.trans e')
theorem o_cover : (Finset.univ : Finset OT).biUnion (fun t => (Rect.unit (s := S4096x2048) (oOff c t.1 t.2.1 t.2.2) S256x2048.size (oOff_inb c t.1 t.2.1 t.2.2)).set) = Finset.univ := by
  refine Finset.eq_univ_iff_forall.2 fun x => ?_
  have hn : (x 0).val < 4096 := (x 0).isLt
  refine Finset.mem_biUnion.2 ⟨blkOf c ⟨(x 0).val / 256, by omega⟩, Finset.mem_univ _, ?_⟩
  rw [o_set, blkOf_eq]
  show 256 * ((x 0).val / 256) ≤ _ ∧ _ < 256 * ((x 0).val / 256) + 256
  omega

theorem o_split (g : S4096x2048.Idx → Elt F .f32) :
    (mPts c outM fullShare g : sProp 𝕄) = bigSep Finset.univ fun t : OT => mPts c (oSl c t.1 t.2.1 t.2.2) fullShare ((oSl c t.1 t.2.1 t.2.2).view.read (Elt F) g) :=
  split_sl c main_v1 (fun t : OT => Rect.unit (s := S4096x2048) (oOff c t.1 t.2.1 t.2.2) S256x2048.size (oOff_inb c t.1 t.2.1 t.2.2)) (fun _ _ => rfl) (o_disj c) (o_cover c) g

abbrev oIx (x : S4096x2048.Idx) : S256x2048.Idx := fun a => match a with
  | ⟨0, _⟩ => ⟨(x 0).val % 256, Nat.mod_lt _ (by decide)⟩
  | ⟨1, _⟩ => x 1
/-- What the kernel leaves in the result of device `c`. -/
def OUT (V : Vals F) : S4096x2048.Idx → Elt F .f32 := fun x =>
  let t := blkOf c ⟨(x 0).val / 256, by have h : (x 0).val < 4096 := (x 0).isLt; omega⟩
  YB V c t.1 t.2.1 t.2.2 (oIx x)

theorem out_read (V : Vals F) (t : OT) : (oSl c t.1 t.2.1 t.2.2).view.read (Elt F) (OUT c V) = YB V c t.1 t.2.1 t.2.2 := by
  funext y
  have h0 : oOff c t.1 t.2.1 t.2.2 0 = 1024 * (hop t.2.2 t.1 c).val + 512 * t.2.2.toNat + 256 * t.2.1.val := congrFun (oOff_eq c t.1 t.2.1 t.2.2) 0
  have h1 : oOff c t.1 t.2.1 t.2.2 1 = 0 := congrFun (oOff_eq c t.1 t.2.1 t.2.2) 1
  have hy : (y 0).val < 256 := (y 0).isLt
  have hn := (hop t.2.2 t.1 c).isLt
  have hj := t.2.1.isLt
  have hd : t.2.2.toNat ≤ 1 := Bool.toNat_le _
  have hn' : (hop t.2.2 t.1 c).val < 4 := hn
  have e : ∀ x : S4096x2048.Idx, (x 0).val = 1024 * (hop t.2.2 t.1 c).val + 512 * t.2.2.toNat + 256 * t.2.1.val + (y 0).val → (x 1).val = (y 1).val
      → OUT c V x = YB V c t.1 t.2.1 t.2.2 y := by
    intro x hx0 hx1
    have hb := blkOf_of c ⟨(x 0).val / 256, by omega⟩ t (by show _ = 256 * ((x 0).val / 256); omega)
    have hix : oIx x = y := by
      funext a; refine Fin.ext ?_
      fin_cases a
      · show (x 0).val % 256 = (y 0).val; omega
      · exact hx1
    unfold OUT
    simp only [hb, hix]
  refine e ((Rect.unit (s := S4096x2048) (oOff c t.1 t.2.1 t.2.2) S256x2048.size (oOff_inb c t.1 t.2.1 t.2.2)).emb y) ?_ ?_
  · show oOff c t.1 t.2.1 t.2.2 0 + 1 * (y 0).val = _; omega
  · show oOff c t.1 t.2.1 t.2.2 1 + 1 * (y 1).val = _; omega

theorem out_join (V : Vals F) : (bigSep Finset.univ fun t : OT => OutY V c t.1 t.2.1 t.2.2 : sProp 𝕄) = mPts c outM fullShare (OUT c V) := by
  rw [o_split]
  exact congrArg (bigSep Finset.univ) (funext fun t => by rw [out_read]; rfl)

end Blocks

end Cert.GemmProof
-- ==== Proof.Slots.lean ====
/-
The steps over a device's slots: its own rows written, the operands of a product read, the rows of the result stored and
copied out.
-/
module

public import proofs.«01_k».proof.Proof.Outs
public import Idealize.ShloMosaic.Lib.ValueLayout

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A device's own slot -/

theorem inb_own : ∀ a, (![0, 0, 0] : Fin 3 → Nat) a + S1x512x4096.size a ≤ S4x512x4096.size a := by decide
abbrev ownR : Rect S4x512x4096 := Rect.unit (s := S4x512x4096) ![0, 0, 0] S1x512x4096.size inb_own

theorem own_read0 (j : Fin 2) (f : S4x512x4096.Idx → Elt F .fp8e4m3) (w : S1x512x4096.Idx → Elt F .fp8e4m3) :
    (((fwM.slice (slabR 0 j) (fun _ => rfl)).squeeze S256x4096 squeezes_S1x256x4096_S256x4096).view.read (Elt F)
      ((fwM.access ownR).write (Elt F) f w Finset.univ)) = fun i => w (slotIx j i) := by
  funext i
  rw [Memref.read_squeeze_slice (Val := Elt F) fwM (slabR 0 j) (fun _ => rfl) squeezes_S1x256x4096_S256x4096 shapeCasts_S1x256x4096_S256x4096]
  refine (shapeCast_dropUnit_apply ![256, 4096] _ _ i).trans ?_
  have h2 : (fwM.access ownR).write (Elt F) f w Finset.univ ((fwM.access ownR).emb (slotIx j i)) = w (slotIx j i) :=
    View.write_emb_of_mem (v := fwM.access ownR) f w (Finset.mem_univ _)
  refine Eq.trans ?_ h2
  refine congrArg ((fwM.access ownR).write (Elt F) f w Finset.univ) (funext fun a => Fin.ext ?_)
  fin_cases a
  · rfl
  · show 256 * j.val + 1 * (i 0).val = 0 + 1 * (256 * j.val + (i 0).val); omega
  · rfl

theorem own_read1 (j : Fin 2) (f : S4x512x4096.Idx → Elt F .fp8e4m3) (w : S1x512x4096.Idx → Elt F .fp8e4m3) :
    (((bwM.slice (slabR 0 j) (fun _ => rfl)).squeeze S256x4096 squeezes_S1x256x4096_S256x4096).view.read (Elt F)
      ((bwM.access ownR).write (Elt F) f w Finset.univ)) = fun i => w (slotIx j i) := by
  funext i
  rw [Memref.read_squeeze_slice (Val := Elt F) bwM (slabR 0 j) (fun _ => rfl) squeezes_S1x256x4096_S256x4096 shapeCasts_S1x256x4096_S256x4096]
  refine (shapeCast_dropUnit_apply ![256, 4096] _ _ i).trans ?_
  have h2 : (bwM.access ownR).write (Elt F) f w Finset.univ ((bwM.access ownR).emb (slotIx j i)) = w (slotIx j i) :=
    View.write_emb_of_mem (v := bwM.access ownR) f w (Finset.mem_univ _)
  refine Eq.trans ?_ h2
  refine congrArg ((bwM.access ownR).write (Elt F) f w Finset.univ) (funext fun a => Fin.ext ?_)
  fin_cases a
  · rfl
  · show 256 * j.val + 1 * (i 0).val = 0 + 1 * (256 * j.val + (i 0).val); omega
  · rfl

theorem own_read (d : Bool) (j : Fin 2) (f : S4x512x4096.Idx → Elt F .fp8e4m3) (w : S1x512x4096.Idx → Elt F .fp8e4m3) :
    (slab d 0 j).view.read (Elt F) ((bufM d).view.rep ((bufM d).view.read (Elt F) (((bufM d).access ownR).write (Elt F) ((bufM d).view.rep f) w Finset.univ)))
      = fun i => w (slotIx j i) := by
  cases d
  · rw [show (bufM false).view.rep ((bufM false).view.read (Elt F) (((bufM false).access ownR).write (Elt F) ((bufM false).view.rep f) w Finset.univ))
      = (fwM.access ownR).write (Elt F) (fwM.view.rep f) w Finset.univ from rep_whole (b := cc0_scratch0) _]
    exact own_read0 j _ w
  · rw [show (bufM true).view.rep ((bufM true).view.read (Elt F) (((bufM true).access ownR).write (Elt F) ((bufM true).view.rep f) w Finset.univ))
      = (bwM.access ownR).write (Elt F) (bwM.view.rep f) w Finset.univ from rep_whole (b := cc0_scratch1) _]
    exact own_read1 j _ w

section Slots

variable (V : Vals F) (K : Dev nD × CK → ℕ) (c : Dev nD)

/-- The buffer of direction `d` before anything is written to it; -/
def Buf0 (d : Bool) : sProp 𝕄 := iprop(∃ g, mPts (F := F) c (bufM d) fullShare g)
/-- and with its own slot written: that slot's halves, and the half slots of the transfers to come. -/
def BufOwn (d : Bool) : sProp 𝕄 :=
  iprop((SlL V c 0 0 d ∗ SlR V c 0 0 d) ∗ (SlL V c 0 1 d ∗ SlR V c 0 1 d) ∗ bigSep Finset.univ fun hj : Fin 3 × Fin 2 => landing (F := F) c (d, hj))

theorem slab_own (d : Bool) (j : Fin 2) (g : S4x512x4096.Idx → Elt F .fp8e4m3) (hg : (slab d 0 j).view.read (Elt F) ((bufM d).view.rep g) = SV V c d j) :
    (mPts c (slab d 0 j) fullShare ((slab d 0 j).view.read (Elt F) ((bufM d).view.rep g)) : sProp 𝕄) ⊢ iprop(SlL V c 0 j d ∗ SlR V c 0 j d) := by
  rw [hg]
  unfold SlL SlR slabAt
  rw [hop_zero]
  exact (mPts_share c (slab d 0 j) (SV V c d j)).1

theorem slab_land (d : Bool) (h : Fin 3) (j : Fin 2) (g : S4x512x4096.Idx → Elt F .fp8e4m3) :
    (mPts c (slab d h.succ j) fullShare ((slab d h.succ j).view.read (Elt F) ((bufM d).view.rep g)) : sProp 𝕄) ⊢ landing (F := F) c (d, h, j) := by
  unfold landing
  iintro H
  iexists ((slab d h.succ j).view.read (Elt F) ((bufM d).view.rep g))
  iexact H

theorem slab_landing (d : Bool) (g : S4x512x4096.Idx → Elt F .fp8e4m3) :
    (bigSep Finset.univ fun h : Fin 3 => bigSep Finset.univ fun j : Fin 2 => mPts c (slab d h.succ j) fullShare ((slab d h.succ j).view.read (Elt F) ((bufM d).view.rep g)) : sProp 𝕄)
      ⊢ bigSep Finset.univ fun hj : Fin 3 × Fin 2 => landing (F := F) c (d, hj) := by
  rw [bigSep_univ_prod]
  exact bigSep_mono fun h _ => bigSep_mono fun j _ => slab_land c d h j g

theorem bigSep_two (Φ : Fin 2 → sProp 𝕄) : bigSep Finset.univ Φ = iprop(Φ 0 ∗ Φ 1) :=
  bigSep_univ_eq_bigSepL [0, 1] (by decide) (by decide) Φ
theorem bigSep_four (Φ : Fin 4 → sProp 𝕄) : bigSep Finset.univ Φ = iprop(Φ 0 ∗ bigSep Finset.univ fun h : Fin 3 => Φ h.succ) := by
  rw [Fin.univ_succ, Finset.cons_eq_insert, bigSep_insert (by simp), bigSep_map]; rfl

theorem buf_own (d : Bool) (g : S4x512x4096.Idx → Elt F .fp8e4m3) (hg : ∀ j, (slab d 0 j).view.read (Elt F) ((bufM d).view.rep g) = SV V c d j) :
    (mPts c (bufM d) fullShare g : sProp 𝕄) ⊢ BufOwn V c d := by
  rw [slabs_split, bigSep_univ_prod, bigSep_four, bigSep_two]
  unfold BufOwn
  iintro ⟨⟨H0, H1⟩, H⟩
  isplitl [H0]; · iapply (slab_own V c d 0 g (hg 0)); iexact H0
  isplitl [H1]; · iapply (slab_own V c d 1 g (hg 1)); iexact H1
  iapply (slab_landing c d g); iexact H

/-- The dead load of the own slot, -/
theorem s_owndead (d : Bool) {hl : (bufM d).view.LoadsAt ownR.toLoadRect} {α : Type} {Q : α → sProp 𝕄} {k : (S1x512x4096.Idx → Elt F .fp8e4m3) → Prog (TpuEff nD τ sig (Elt F) Λ₀ .tc) α} :
    (Buf0 (F := F) c d : sProp 𝕄) ⊢ iprop((∀ v, Buf0 (F := F) c d -∗ WP c (k v) Q) -∗ WP c (.op (.load (bufM d) ownR.toLoadRect hl) k) Q) := by
  unfold Buf0
  iintro ⟨%f, Hf⟩ Hk
  iapply (step_load c (bufM d) ownR.toLoadRect fullShare f) $$ Hf
  iintro Hf
  iapply Hk
  iexists f; iexact Hf

/-- and the store of its rows. -/
theorem s_ownstore (d : Bool) {hx : ((bufM d).access ownR).Stores Finset.univ} {hm : (Finset.univ : Finset ownR.shape.Idx) = Finset.univ ∨ ∀ a, ownR.stride a = 1}
    {α : Type} {Q : α → sProp 𝕄} {k : PUnit → Prog (TpuEff nD τ sig (Elt F) Λ₀ .tc) α} :
    (Buf0 (F := F) c d : sProp 𝕄) ⊢ iprop((BufOwn V c d -∗ WP c (k ⟨⟩) Q) -∗ WP c (.op (.store (bufM d) ownR (castRows V c d) Finset.univ hx hm) k) Q) := by
  unfold Buf0
  iintro ⟨%f, Hf⟩ Hk
  iapply (step_store c (bufM d) ownR f) $$ Hf
  iintro Hf
  iapply Hk
  iapply (buf_own V c d _ (fun j => own_read d j f (castRows V c d)))
  iexact Hf

/-! ## The operands of a product -/

theorem s_slabload (k : Fin 4) (j : Fin 2) (d : Bool) {hl : (bufM d).view.LoadsAt (slabR k j).toLoadRect} {α : Type} {Q : α → sProp 𝕄}
    {kk : (S1x256x4096.Idx → Elt F .fp8e4m3) → Prog (TpuEff nD τ sig (Elt F) Λ₀ .tc) α} :
    (SlR V c k j d : sProp 𝕄) ⊢ iprop((SlR V c k j d -∗ WP c (kk (lslab (SV V (hop d k c) d j))) Q) -∗ WP c (.op (.load (bufM d) (slabR k j).toLoadRect hl) kk) Q) :=
  step_sqload c (bufM d) (slabR k j) (fun _ => rfl) squeezes_S1x256x4096_S256x4096 shapeCasts_S1x256x4096_S256x4096 casts_256_1x256 fullShare.right (SV V (hop d k c) d j)

theorem inb_w8w : ∀ a, (![0, 0] : Fin 2 → Nat) a + S4096x2048.size a ≤ S4096x2048.size a := by decide
abbrev w8W : Rect S4096x2048 := Rect.unit (s := S4096x2048) ![0, 0] S4096x2048.size inb_w8w

theorem w8_read (f : S4096x2048.Idx → Elt F .fp8e4m3) : w8M.view.readAt (Elt F) w8W.toLoadRect (w8M.view.rep f) = f := by
  rw [show w8M.view.rep f = f from rep_whole (b := cc0_scratch3) f]
  exact Memref.readAt_unit_zero (Elt F) cc0_scratch3 (by funext a; fin_cases a <;> rfl) inb_w8w f

theorem step_load_eq {cs : CoreSpace} {s : Shape} {e : EltTy} (m : Memref sig .tc cs s e) (r : LoadRect s) {hl : m.view.LoadsAt r} (q : PosShare TreeShare)
    (X : s.Idx → Elt F e) (Y : r.shape.Idx → Elt F e) (hY : m.view.readAt (Elt F) r (m.view.rep X) = Y) {α : Type} {Q : α → sProp 𝕄} {k : (r.shape.Idx → Elt F e) → Prog (TpuEff nD τ sig (Elt F) Λ₀ .tc) α} :
    (mPts c m q X : sProp 𝕄) ⊢ iprop((mPts c m q X -∗ WP c (k Y) Q) -∗ WP c (.op (.load m r hl) k) Q) := by
  subst hY
  exact step_load c m r q X

theorem s_w8load {hl : w8M.view.LoadsAt w8W.toLoadRect} {α : Type} {Q : α → sProp 𝕄}
    {kk : (S4096x2048.Idx → Elt F .fp8e4m3) → Prog (TpuEff nD τ sig (Elt F) Λ₀ .tc) α} :
    (W8F V c : sProp 𝕄) ⊢ iprop((W8F V c -∗ WP c (kk (W8 V c)) Q) -∗ WP c (.op (.load w8M w8W.toLoadRect hl) kk) Q) := by
  unfold W8F
  exact step_load_eq c w8M w8W.toLoadRect fullShare (W8 V c) (W8 V c) (w8_read (W8 V c))

theorem inb_s1 : ∀ a, (![0] : Fin 1 → Nat) a + S1.size a ≤ S1.size a := by decide
abbrev s1R : Rect S1 := Rect.unit (s := S1) ![0] S1.size inb_s1

theorem sx_read (f : S1.Idx → Elt F .f32) (x : S1.Idx) : (sxM.access s1R).read (Elt F) (sxM.view.rep f) x = f ix1 := by
  rw [show sxM.view.rep f = f from rep_whole (b := cc0_stg1_0) f]
  exact congrArg f (ix1_eq _)
theorem sw_read (f : S1.Idx → Elt F .f32) (x : S1.Idx) : (swM.access s1R).read (Elt F) (swM.view.rep f) x = f ix1 := by
  rw [show swM.view.rep f = f from rep_whole (b := cc0_stg2_0) f]
  exact congrArg f (ix1_eq _)

theorem s_sx {hl : sxM.view.LoadsAt s1R.toLoadRect} {α : Type} {Q : α → sProp 𝕄} {k : (S1.Idx → Elt F .f32) → Prog (TpuEff nD τ sig (Elt F) Λ₀ .tc) α} :
    (Sx V c : sProp 𝕄) ⊢ iprop((Sx V c -∗ WP c (k (fun _ => V.sx c ix1)) Q) -∗ WP c (.op (.load sxM s1R.toLoadRect hl) k) Q) := by
  unfold Sx
  exact step_load_eq c sxM s1R.toLoadRect fullShare (V.sx c) (fun _ => V.sx c ix1) (funext fun x => sx_read (V.sx c) x)

theorem s_sw {hl : swM.view.LoadsAt s1R.toLoadRect} {α : Type} {Q : α → sProp 𝕄} {k : (S1.Idx → Elt F .f32) → Prog (TpuEff nD τ sig (Elt F) Λ₀ .tc) α} :
    (Sw V c : sProp 𝕄) ⊢ iprop((Sw V c -∗ WP c (k (fun _ => V.sw c ix1)) Q) -∗ WP c (.op (.load swM s1R.toLoadRect hl) k) Q) := by
  unfold Sw
  exact step_load_eq c swM s1R.toLoadRect fullShare (V.sw c) (fun _ => V.sw c ix1) (funext fun x => sw_read (V.sw c) x)

/-! ## The rows of the result -/

theorem s_osdead (s : Fin 4) {hl : osM.view.LoadsAt (osR s).toLoadRect} {α : Type} {Q : α → sProp 𝕄} {k : (S1x256x2048.Idx → Elt F .f32) → Prog (TpuEff nD τ sig (Elt F) Λ₀ .tc) α} :
    (OIdle (F := F) c s : sProp 𝕄) ⊢ iprop((∀ v, OIdle (F := F) c s -∗ WP c (k v) Q) -∗ WP c (.op (.load osM (osR s).toLoadRect hl) k) Q) := by
  unfold OIdle
  iintro ⟨%X, Hs⟩ Hk
  iapply (step_sqload c osM (osR s) (fun _ => rfl) squeezes_S1x256x2048_S256x2048 shapeCasts_S1x256x2048_S256x2048 casts_o fullShare X) $$ Hs
  iintro Hs
  iapply Hk
  iexists X; iexact Hs

theorem s_ostore (s k : Fin 4) (j : Fin 2) (d : Bool) {w : S1x256x2048.Idx → Elt F .f32} (hw : w = k0_pay14 (scl V c) (lslab (SV V (hop d k c) d j)) (W8 V c))
    {hx : (osM.access (osR s)).Stores Finset.univ} {hm : (Finset.univ : Finset (osR s).shape.Idx) = Finset.univ ∨ ∀ a, (osR s).stride a = 1}
    {α : Type} {Q : α → sProp 𝕄} {kk : PUnit → Prog (TpuEff nD τ sig (Elt F) Λ₀ .tc) α} :
    (OIdle (F := F) c s : sProp 𝕄) ⊢ iprop((OSto V c s k j d -∗ WP c (kk ⟨⟩) Q) -∗ WP c (.op (.store osM (osR s) w Finset.univ hx hm) kk) Q) := by
  subst hw
  unfold OIdle OSto
  iintro ⟨%X, Hs⟩ Hk
  iapply (step_sqstore c osM (osR s) (fun _ => rfl) squeezes_S1x256x2048_S256x2048 shapeCasts_S1x256x2048_S256x2048 X (YB V c k j d) rfl) $$ Hs
  iexact Hk

theorem o_credit (off : Fin 2 → ℕ) (h : ∀ a, off a + S256x2048.size a ≤ S4096x2048.size a) :
    (outM.slice (Rect.unit (s := S4096x2048) off S256x2048.size h) (fun _ => rfl)).view.dmaCredit = nO := rfl

theorem s_ocopy (s k : Fin 4) (j : Fin 2) (d : Bool) {hsrc : (osSl s).view.WordExact} {hdst : (oSl c k j d).view.WordExact}
    {hsem : DmaTarget.Typed (nD := nD) (τ := τ) (p := .tc) .vmem (.dma (osem s)) (.here (oSl c k j d))} {α : Type} {Q : α → sProp 𝕄} {kk : PUnit → Prog (TpuEff nD τ sig (Elt F) Λ₀ .tc) α} :
    iprop(OSto V c s k j d ∗ OSem (F := F) c s ∗ Out0 (F := F) c k j d) ⊢ iprop((OFly V c s k j d -∗ WP c (kk ⟨⟩) Q)
      -∗ WP c (.op (.enqueueDma (osSl s) (.here (oSl c k j d)) (.dma (osem s)) hsrc hdst hsem) kk) Q) := by
  unfold OSto OSem Out0 OFly
  iintro ⟨Hs, Hv, ⟨%X, Ho⟩⟩ Hk
  iapply (step_copy c nO (o_credit _ _) nO_pos (YB V c k j d) X) $$ [Hs Hv Ho]
  · isplitl [Hs]; · iexact Hs
    isplitl [Ho] <;> iassumption
  iexact Hk

theorem s_oland (s k : Fin 4) (j : Fin 2) (d : Bool) (l : List Xf) {sw sw' : Space} {s₁ : Shape} {e₁ : EltTy} {srcw : Memref sig .tc sw s₁ e₁} {dstw : Memref sig .tc sw' s₁ e₁}
    {hsrc : srcw.view.WordExact} {hdst : dstw.view.WordExact} (hn : dstw.view.dmaCredit = nO) {α : Type} {Q : α → sProp 𝕄} {kk : PUnit → Prog (TpuEff nD τ sig (Elt F) Λ₀ .tc) α} :
    iprop(env (SV V) K ∗ OFly V c s k j d ∗ Ow c l) ⊢ iprop(((OIdle (F := F) c s ∗ OSem (F := F) c s ∗ OutY V c k j d ∗ Ow c l) -∗ WP c (kk ⟨⟩) Q)
      -∗ WP c (.op (.waitDma2 (osem s) srcw dstw hsrc hdst) kk) Q) := by
  unfold OFly OIdle OSem OutY
  iintro ⟨#He, HF, HO⟩ Hk
  iapply (step_landed (SV V) K c nO hn (YB V c k j d) l (osem_lv c s)) $$ [HF HO]
  · isplitr; · iexact He
    isplitl [HF] <;> iassumption
  iintro ⟨Hd, Hs, Hv, HO⟩
  iapply Hk
  isplitl [Hs]; · iexists _; iexact Hs
  isplitl [Hv]; · iexact Hv
  isplitl [Hd] <;> iassumption

end Slots

end Cert.GemmProof
-- ==== Proof.Xfers.lean ====
/-
The steps of the ring's transfers, stated over the halves of a slot's share.
-/
module

public import proofs.«01_k».proof.Proof.Slots

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Xfers

variable (V : Vals F) (K : Dev nD × CK → ℕ) (c : Dev nD)

/-! ## The transfers, over the halves of their slots -/

theorem s_send (d : Bool) (h : Fin 3) (j : Fin 2) (k : Fin 4) (hk : h.castSucc = k) (n : Dev nD) (hn : n = peer d c) (l : List Xf)
    {hsc : (slab d h.succ j : Memref sig (Dev.tc n : Thread nD τ).2.kind .vmem S256x4096 .fp8e4m3).view.ref.isScScratch = false}
    {hsrc : (slab d h.castSucc j).view.WordExact} {hdst : (slab d h.succ j).view.WordExact}
    {hsem : DmaTarget.Typed .vmem (.dma (rcvS (d, h, j))) (.remote (Dev.tc n : Thread nD τ) (slab d h.succ j) (.dma (sndS (d, h, j))) hsc)}
    {α : Type} {Q : α → sProp 𝕄} {kk : PUnit → Prog (TpuEff nD τ sig (Elt F) Λ₀ .tc) α} :
    iprop(env (SV V) K ∗ SndReady (F := F) c (d, h, j) ∗ SlL V c k j d ∗ Ow c ((d, h, j) :: l))
      ⊢ iprop(((SndSent (F := F) c (d, h, j) ∗ Ow c l) -∗ WP c (kk ⟨⟩) Q)
          -∗ WP c (.op (.enqueueDma (slab d h.castSucc j) (.remote (Dev.tc n : Thread nD τ) (slab d h.succ j) (.dma (sndS (d, h, j))) hsc) (.dma (rcvS (d, h, j))) hsrc hdst hsem) kk) Q) := by
  subst hk
  exact step_send (SV V) K c (d, h, j) n hn l

theorem s_recv (d : Bool) (h : Fin 3) (j : Fin 2) (k : Fin 4) (hk : h.succ = k) (l : List Xf) (hl : ∀ y ∈ l, 2 + h.val < 2 + y.2.1.val)
    {hsrc : (slab d h.castSucc j).view.WordExact} {hdst : (slab d h.succ j).view.WordExact}
    {α : Type} {Q : α → sProp 𝕄} {kk : PUnit → Prog (TpuEff nD τ sig (Elt F) Λ₀ .tc) α} :
    iprop(env (SV V) K ∗ RcvReady (F := F) c (d, h, j) ∗ Ow c l)
      ⊢ iprop(((RcvDone (F := F) c (d, h, j) ∗ SlL V c k j d ∗ SlR V c k j d ∗ Ow c l) -∗ WP c (kk ⟨⟩) Q)
          -∗ WP c (.op (.waitDma2 (rcvS (d, h, j)) (slab d h.castSucc j) (slab d h.succ j) hsrc hdst) kk) Q) := by
  subst hk
  exact step_recv (SV V) K c (d, h, j) l hl (slab_credit _ _ _)

theorem s_sent (d : Bool) (h : Fin 3) (j : Fin 2) (k : Fin 4) (hk : h.castSucc = k)
    {hsrc : (slab d h.succ j).view.WordExact} {hdst : (slab d h.castSucc j).view.WordExact}
    {α : Type} {Q : α → sProp 𝕄} {kk : PUnit → Prog (TpuEff nD τ sig (Elt F) Λ₀ .tc) α} :
    iprop(env (SV V) K ∗ SndSent (F := F) c (d, h, j) ∗ Ow c [])
      ⊢ iprop(((SndDone (F := F) c (d, h, j) ∗ SlL V c k j d ∗ Ow c []) -∗ WP c (kk ⟨⟩) Q)
          -∗ WP c (.op (.waitDma2 (sndS (d, h, j)) (slab d h.succ j) (slab d h.castSucc j) hsrc hdst) kk) Q) := by
  subst hk
  exact step_sent (SV V) K c (d, h, j) (slab_credit _ _ _)

/-- The store of a cast block, the count of the blocks written given by its value. -/
theorem s_w8put (i : Fin 8) (n m : ℕ) (hn : i.val = n) (hm : i.val + 1 = m) {w : S512x2048.Idx → Elt F .fp8e4m3} (hw : w = wCast V c i)
    {hx : (w8M.access (w8R i)).Stores Finset.univ} {hm' : (Finset.univ : Finset (w8R i).shape.Idx) = Finset.univ ∨ ∀ a, (w8R i).stride a = 1}
    {α : Type} {Q : α → sProp 𝕄} {k : PUnit → Prog (TpuEff nD τ sig (Elt F) Λ₀ .tc) α} :
    (W8P V c n : sProp 𝕄) ⊢ iprop((W8P V c m -∗ WP c (k ⟨⟩) Q) -∗ WP c (.op (.store w8M (w8R i) w Finset.univ hx hm') k) Q) := by
  subst hn hm hw
  exact s_w8store V c i

theorem s_wwait (s : Fin 2) (i : Fin 8) (l : List Xf) {srcw : Memref sig .tc .hbm S512x2048 .f32}
    {hsrc : srcw.view.WordExact} {hdst : (stSl s).view.WordExact} {α : Type} {Q : α → sProp 𝕄} {k : PUnit → Prog (TpuEff nD τ sig (Elt F) Λ₀ .tc) α} :
    iprop(env (SV V) K ∗ WFly V c s i ∗ Ow c l) ⊢ iprop(((StFull V c s i ∗ WBlk V c i ∗ Ow c l) -∗ WP c (k ⟨⟩) Q)
      -∗ WP c (.op (.waitDma2 (wsem s) srcw (stSl s) hsrc hdst) k) Q) :=
  s_wland V K c s i l (st_credit s)

theorem s_owait (s k : Fin 4) (j : Fin 2) (d : Bool) (l : List Xf) {srcw : Memref sig .tc .vmem S256x2048 .f32}
    {off : Fin 2 → ℕ} {h : ∀ a, off a + S256x2048.size a ≤ S4096x2048.size a}
    {hsrc : srcw.view.WordExact} {hdst : (outM.slice (Rect.unit (s := S4096x2048) off S256x2048.size h) (fun _ => rfl)).view.WordExact} {α : Type} {Q : α → sProp 𝕄} {kk : PUnit → Prog (TpuEff nD τ sig (Elt F) Λ₀ .tc) α} :
    iprop(env (SV V) K ∗ OFly V c s k j d ∗ Ow c l) ⊢ iprop(((OIdle (F := F) c s ∗ OSem (F := F) c s ∗ OutY V c k j d ∗ Ow c l) -∗ WP c (kk ⟨⟩) Q)
      -∗ WP c (.op (.waitDma2 (osem s) srcw (outM.slice (Rect.unit (s := S4096x2048) off S256x2048.size h) (fun _ => rfl)) hsrc hdst) kk) Q) :=
  s_oland V K c s k j d l (o_credit off h)

theorem cw_peer {n : ℕ} {h : n < nD} (e : n = (c.val + 1) % 4) : (⟨n, h⟩ : Dev nD) = peer false c := Fin.ext e
theorem ccw_peer {n : ℕ} {h : n < nD} (e : n = (c.val + 3) % 4) : (⟨n, h⟩ : Dev nD) = peer true c := Fin.ext e

end Xfers

end Cert.GemmProof
-- ==== Proof.Lists.lean ====
/-
A device's holdings taken apart and put together: what it starts with, what it ends with.
-/
module

public import proofs.«01_k».proof.Proof.Xfers

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Lists

variable (V : Vals F) (K : Dev nD × CK → ℕ) (c : Dev nD)

/-! ## Families, member by member -/

theorem over_xf (Φ : Xf → sProp 𝕄) : bigSep Finset.univ Φ = iprop(Φ (false, 0, 0) ∗ Φ (true, 0, 0) ∗ Φ (false, 0, 1) ∗ Φ (true, 0, 1) ∗ Φ (false, 1, 0) ∗ Φ (true, 1, 0) ∗ Φ (false, 1, 1) ∗ Φ (true, 1, 1) ∗ Φ (false, 2, 0) ∗ Φ (true, 2, 0) ∗ Φ (false, 2, 1) ∗ Φ (true, 2, 1)) :=
  bigSep_univ_eq_bigSepL allX (by decide) (by decide) Φ
theorem over_eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem over_four (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem over_ot (Φ : OT → sProp 𝕄) : bigSep Finset.univ Φ = iprop(Φ (0, 0, false) ∗ Φ (0, 0, true) ∗ Φ (0, 1, false) ∗ Φ (0, 1, true) ∗ Φ (1, 0, false) ∗ Φ (1, 0, true) ∗ Φ (1, 1, false) ∗ Φ (1, 1, true) ∗ Φ (2, 0, false) ∗ Φ (2, 0, true) ∗ Φ (2, 1, false) ∗ Φ (2, 1, true) ∗ Φ (3, 0, false) ∗ Φ (3, 0, true) ∗ Φ (3, 1, false) ∗ Φ (3, 1, true)) :=
  bigSep_univ_eq_bigSepL [(0, 0, false), (0, 0, true), (0, 1, false), (0, 1, true), (1, 0, false), (1, 0, true), (1, 1, false), (1, 1, true), (2, 0, false), (2, 0, true), (2, 1, false), (2, 1, true), (3, 0, false), (3, 0, true), (3, 1, false), (3, 1, true)] (by decide) (by decide) Φ
theorem over_slots (Φ : Fin 4 × Fin 2 → sProp 𝕄) : bigSep Finset.univ Φ = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ

/-! ## What a device starts and ends with -/

/-- The duties of a transfer and the position of its send cell. -/
def SndTok (x : Xf) : sProp 𝕄 :=
  iprop(dutyTok ER (sndCell c x) 0 false ∗ dutyTok ER (rcvCell (peer x.1 c) x) 0 false ∗ atPos ER (sndCell c x) 0 ∅ 0)

theorem snd_ready1 (x : Xf) : (iprop(SndTok (F := F) c x ∗ landing (F := F) (peer x.1 c) x) : sProp 𝕄) ⊢ SndReady (F := F) c x := by
  unfold SndTok SndReady
  iintro ⟨⟨H1, H2, H3⟩, H4⟩
  iframe H1 H2 H3 H4

/-- The barrier's round brings every transfer its landing. -/
theorem snd_ready : (iprop(bigSep Finset.univ (fun x : Xf => SndTok (F := F) c x) ∗ barPay (F := F) c false ∗ barPay (F := F) c true) : sProp 𝕄)
    ⊢ bigSep Finset.univ fun x : Xf => SndReady (F := F) c x := by
  have e : (bigSep Finset.univ (fun x : Xf => landing (F := F) (peer x.1 c) x) : sProp 𝕄) = iprop(barPay (F := F) c false ∗ barPay (F := F) c true) := by
    rw [bigSep_univ_prod]
    exact bigSep_univ_eq_bigSepL [false, true] (by decide) (by decide) _
  rw [← e, ← bigSep_sep']
  exact bigSep_mono fun x _ => snd_ready1 c x

theorem slot_back (k : Fin 4) (j : Fin 2) (d : Bool) : (iprop(SlL V c k j d ∗ SlR V c k j d) : sProp 𝕄) ⊢ iprop(∃ X, mPts (F := F) c (slab d k j) fullShare X) := by
  unfold SlL SlR slabAt
  iintro H
  iexists (SV V (hop d k c) d j)
  iapply (mPts_share c (slab d k j) (SV V (hop d k c) d j)).2
  iexact H

/-- Every half slot back, the buffer is whole again. -/
theorem buf_back (d : Bool) : (bigSep Finset.univ (fun b : Fin 4 × Fin 2 => iprop(SlL V c b.1 b.2 d ∗ SlR V c b.1 b.2 d)) : sProp 𝕄)
    ⊢ iprop(∃ g, (bufM d).view.loc (c : Thread nD τ) ↦{fullShare} g) :=
  .trans (bigSep_mono fun b _ => slot_back V c b.1 b.2 d) (slabs_join c d)

def StM0 : sProp 𝕄 := iprop(∃ g : S2x512x2048.Idx → Elt F .f32, mPts c stM fullShare g)
def W8M0 : sProp 𝕄 := iprop(∃ g : S4096x2048.Idx → Elt F .fp8e4m3, mPts c w8M fullShare g)
def OsM0 : sProp 𝕄 := iprop(∃ g : S4x256x2048.Idx → Elt F .f32, mPts c osM fullShare g)
def OutM0 : sProp 𝕄 := iprop(∃ g : S4096x2048.Idx → Elt F .f32, mPts c outM fullShare g)
def WSem (s : Fin 2) : sProp 𝕄 := (semVal ((c : Thread nD τ), .dma (wsem s)) 0 : sProp 𝕄)

theorem w8_start : (W8M0 (F := F) c : sProp 𝕄) ⊢ W8P V c 0 := by
  unfold W8M0 W8P
  iintro ⟨%g, Hg⟩
  iexists g
  isplitl [Hg]; · iexact Hg
  ipureintro
  intro x hx; omega

theorem st_start : (iprop(StM0 (F := F) c ∗ WSem (F := F) c 0 ∗ WSem (F := F) c 1) : sProp 𝕄) ⊢ iprop(StIdle (F := F) c 0 ∗ StIdle (F := F) c 1) := by
  unfold StM0 WSem StIdle
  iintro ⟨⟨%g, Hg⟩, H0, H1⟩
  ihave Hg := (Entails.of_eq ((st_split c g).trans (bigSep_two _))) $$ Hg
  icases Hg with ⟨G0, G1⟩
  isplitl [G0 H0]
  · isplitl [G0]; · iexists _; iexact G0
    iexact H0
  isplitl [G1]; · iexists _; iexact G1
  iexact H1

theorem os_some (s : Fin 4) (g : S4x256x2048.Idx → Elt F .f32) : (mPts c (osSl s) fullShare ((osSl s).view.read (Elt F) g) : sProp 𝕄) ⊢ OIdle (F := F) c s := by
  unfold OIdle
  iintro H
  iexists ((osSl s).view.read (Elt F) g); iexact H
theorem os_start1 (g : S4x256x2048.Idx → Elt F .f32) : (mPts c osM fullShare g : sProp 𝕄) ⊢ bigSep Finset.univ fun s : Fin 4 => OIdle (F := F) c s := by
  rw [os_split c g]
  exact bigSep_mono fun s _ => os_some c s g
theorem os_start : (OsM0 (F := F) c : sProp 𝕄) ⊢ bigSep Finset.univ fun s : Fin 4 => OIdle (F := F) c s := by
  unfold OsM0
  iintro ⟨%g, Hg⟩
  iapply (os_start1 c g)
  iexact Hg

theorem o_some (t : OT) (g : S4096x2048.Idx → Elt F .f32) : (mPts c (oSl c t.1 t.2.1 t.2.2) fullShare ((oSl c t.1 t.2.1 t.2.2).view.read (Elt F) g) : sProp 𝕄) ⊢ Out0 (F := F) c t.1 t.2.1 t.2.2 := by
  unfold Out0
  iintro H
  iexists ((oSl c t.1 t.2.1 t.2.2).view.read (Elt F) g); iexact H
theorem o_start1 (g : S4096x2048.Idx → Elt F .f32) : (mPts c outM fullShare g : sProp 𝕄) ⊢ bigSep Finset.univ fun t : OT => Out0 (F := F) c t.1 t.2.1 t.2.2 := by
  rw [o_split c g]
  exact bigSep_mono fun t _ => o_some c t g
theorem o_start : (OutM0 (F := F) c : sProp 𝕄) ⊢ bigSep Finset.univ fun t : OT => Out0 (F := F) c t.1 t.2.1 t.2.2 := by
  unfold OutM0
  iintro ⟨%g, Hg⟩
  iapply (o_start1 c g)
  iexact Hg

theorem st_back : (iprop(StIdle (F := F) c 0 ∗ StIdle (F := F) c 1) : sProp 𝕄) ⊢ iprop((∃ g, stM.view.loc (c : Thread nD τ) ↦{fullShare} g) ∗ WSem (F := F) c 0 ∗ WSem (F := F) c 1) := by
  unfold StIdle WSem
  iintro ⟨⟨H0, S0⟩, ⟨H1, S1⟩⟩
  isplitl [H0 H1]
  · iapply (st_join c)
    iapply (Entails.of_eq (bigSep_two (fun s : Fin 2 => iprop(∃ X, mPts (F := F) c (stSl s) fullShare X))).symm)
    isplitl [H0]; · iexact H0
    iexact H1
  isplitl [S0]; · iexact S0
  iexact S1

theorem os_back : (bigSep Finset.univ (fun s : Fin 4 => OIdle (F := F) c s) : sProp 𝕄) ⊢ iprop(∃ g, osM.view.loc (c : Thread nD τ) ↦{fullShare} g) := by
  unfold OIdle
  exact os_join c

theorem w8_back : (W8F V c : sProp 𝕄) ⊢ iprop(∃ g, w8M.view.loc (c : Thread nD τ) ↦{fullShare} g) := by
  unfold W8F
  rw [whole_pts]
  iintro H
  iexists (W8 V c); iexact H

end Lists

end Cert.GemmProof
-- ==== Proof.Ghost.lean ====
/-
What the launch mints and deals: the cells' invariants, the duties, the credit.
-/
module

public import proofs.«01_k».proof.Proof.Lists

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

theorem over_bool {α : Type} [Fintype α] (Φ : Bool × α → sProp 𝕄) :
    bigSep Finset.univ Φ = iprop(bigSep Finset.univ (fun x : α => Φ (false, x)) ∗ bigSep Finset.univ (fun x : α => Φ (true, x))) := by
  rw [bigSep_univ_prod]
  exact bigSep_univ_eq_bigSepL [false, true] (by decide) (by decide) _

/-- Over the cells of one device: the barrier, the send cells, the receive cells. -/
theorem over_ck (Φ : CK → sProp 𝕄) :
    bigSep Finset.univ Φ = iprop(Φ none ∗ bigSep Finset.univ (fun x : Xf => Φ (some (false, x))) ∗ bigSep Finset.univ (fun x : Xf => Φ (some (true, x)))) := by
  have e : (Finset.univ.erase none : Finset CK) = Finset.univ.map ⟨some, Option.some_injective _⟩ := by
    ext k
    rcases k with _ | k <;> simp
  rw [bigSep_univ_at Φ none, e, bigSep_map]
  exact congrArg (fun P => iprop(Φ none ∗ P)) (over_bool (fun k : Bool × Xf => Φ (some k)))

/-! ## The kernel's own semaphores -/

/-- Those of the transfers, of the weight's copies, of the result's copies. -/
abbrev LK : Type := (Bool × Xf) ⊕ (Fin 2 ⊕ Fin 4)
abbrev lsem : LK → SemLoc sig
  | .inl k => csem (some k)
  | .inr (.inl s) => .dma (wsem s)
  | .inr (.inr s) => .dma (osem s)

theorem lsem_facts : Pipeline.OwnSemFacts cfg0.spec lsem := by
  have h1 : ∀ (x : Xf) (s : Fin 2), sndS x ≠ wsem s := by decide
  have h2 : ∀ (x : Xf) (s : Fin 4), sndS x ≠ osem s := by decide
  have h3 : ∀ (x : Xf) (s : Fin 2), rcvS x ≠ wsem s := by decide
  have h4 : ∀ (x : Xf) (s : Fin 4), rcvS x ≠ osem s := by decide
  have h5 : ∀ (s : Fin 2) (s' : Fin 4), wsem s ≠ osem s' := by decide
  have h6 : ∀ (s s' : Fin 2), wsem s = wsem s' → s = s' := by decide
  have h7 : ∀ (s s' : Fin 4), osem s = osem s' → s = s' := by decide
  refine ⟨by decide, ?_, by decide⟩
  rintro (⟨_ | _, x⟩ | s | s) (⟨_ | _, x'⟩ | s' | s') h
  all_goals first
    | exact congrArg _ (Option.some.inj (csem_injective h))
    | exact absurd (SemLoc.dma.inj h) (h1 _ _)
    | exact absurd (SemLoc.dma.inj h) (h2 _ _)
    | exact absurd (SemLoc.dma.inj h) (h3 _ _)
    | exact absurd (SemLoc.dma.inj h) (h4 _ _)
    | exact absurd (SemLoc.dma.inj h) (h5 _ _)
    | exact absurd (SemLoc.dma.inj h).symm (h1 _ _)
    | exact absurd (SemLoc.dma.inj h).symm (h2 _ _)
    | exact absurd (SemLoc.dma.inj h).symm (h3 _ _)
    | exact absurd (SemLoc.dma.inj h).symm (h4 _ _)
    | exact absurd (SemLoc.dma.inj h).symm (h5 _ _)
    | exact congrArg _ (congrArg _ (h6 _ _ (SemLoc.dma.inj h)))
    | exact congrArg _ (congrArg _ (h7 _ _ (SemLoc.dma.inj h)))

section Ghost

variable (SV : Dev nD → Bool → Fin 2 → Slab F) (c : Dev nD)

/-- The semaphores of the local copies, at zero. -/
def locSems : sProp 𝕄 := iprop((WSem (F := F) c 0 ∗ WSem (F := F) c 1) ∗ bigSep Finset.univ fun s : Fin 4 => OSem (F := F) c s)

theorem own_sems : (Pipeline.ownSems0 (Ix := Unit) (Name := ℕ) (U := UU) (Lvl := ℕ) (Val := Elt F) (τ := τ) lsem c : sProp 𝕄)
    = iprop((bigSep Finset.univ (fun x : Xf => semVal (sndCell c x) 0) ∗ bigSep Finset.univ (fun x : Xf => semVal (rcvCell c x) 0)) ∗ locSems (F := F) c) := by
  unfold Pipeline.ownSems0 locSems
  rw [bigSep_univ_sum, bigSep_univ_sum, over_bool]
  have e : (bigSep Finset.univ (fun s : Fin 2 => (semVal ((c.tc : Thread nD τ), lsem (.inr (.inl s))) 0 : sProp 𝕄))) = iprop(WSem (F := F) c 0 ∗ WSem (F := F) c 1) :=
    bigSep_two _
  rw [e]
  rfl

theorem unscoped_sems : (unscopedSems0 c : sProp 𝕄) = semVal (barCell c) 0 := by
  unfold unscopedSems0; rw [bigSep_eq_bigSepL_of_eq [SemLoc.reg barS] (by decide) (by decide)]; rfl

theorem cell_sems :
    (iprop(Pipeline.ownSems0 (Ix := Unit) (Name := ℕ) (U := UU) (Lvl := ℕ) (Val := Elt F) (τ := τ) lsem c ∗ unscopedSems0 c) : sProp 𝕄)
      ⊢ iprop((bigSep Finset.univ fun k : CK => semVal (kcell (c, k)) 0) ∗ locSems (F := F) c) := by
  rw [own_sems, unscoped_sems, over_ck]
  iintro ⟨⟨⟨HS, HV⟩, HL⟩, HB⟩
  isplitl [HS HV HB]
  · isplitl [HB]; · iexact HB
    isplitl [HS] <;> iassumption
  iexact HL

/-! ## The ghosts minted at launch -/

def ringCells : Finset (GSem nD τ sig) := Finset.univ.map ⟨kcell, kcell_injective⟩

/-- Which duty of a device's own cells: one of its barrier's two, or that of a transfer's cell. -/
abbrev TK : Type := Bool ⊕ (Bool × Xf)
abbrev tokOf (ck : Dev nD × TK) : GSem nD τ sig × ℕ × Bool := match ck.2 with
  | .inl b => (kcell (ck.1, none), 0, b)
  | .inr k => (kcell (ck.1, some k), 0, false)
theorem tokOf_injective : Function.Injective (tokOf : Dev nD × TK → GSem nD τ sig × ℕ × Bool) := by
  rintro ⟨d, b | k⟩ ⟨d', b' | k'⟩ h
  · have h1 := kcell_injective (congrArg Prod.fst h)
    have h2 : b = b' := congrArg (fun x : GSem nD τ sig × ℕ × Bool => x.2.2) h
    have h3 : d = d' := (Prod.mk.inj h1).1
    rw [h3, h2]
  · exact absurd (Prod.mk.inj (kcell_injective (congrArg Prod.fst h))).2 (by intro h; cases h)
  · exact absurd (Prod.mk.inj (kcell_injective (congrArg Prod.fst h))).2 (by intro h; cases h)
  · have h1 := Prod.mk.inj (kcell_injective (congrArg Prod.fst h))
    have h3 : d = d' := h1.1
    rw [h3, Option.some.inj h1.2]
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

/-- The duties of device `c`'s own cells; -/
def toks : sProp 𝕄 :=
  iprop((dutyTok ER (barCell c) 0 false ∗ dutyTok ER (barCell c) 0 true) ∗ bigSep Finset.univ (fun x : Xf => dutyTok ER (sndCell c x) 0 false)
    ∗ bigSep Finset.univ (fun x : Xf => dutyTok ER (rcvCell c x) 0 false))
/-- those it pays. -/
def payToks : sProp 𝕄 :=
  iprop((dutyTok ER (barCell (prv c)) 0 false ∗ dutyTok ER (barCell (nxt c)) 0 true) ∗ bigSep Finset.univ (fun x : Xf => dutyTok ER (sndCell c x) 0 false)
    ∗ bigSep Finset.univ (fun x : Xf => dutyTok ER (rcvCell (peer x.1 c) x) 0 false))

def G : sProp 𝕄 :=
  iprop((bigSep Finset.univ fun k : CK => roundState ER (ringRd SV) (kcell (c, k)) 0)
    ∗ (bigSep Finset.univ fun k : CK => iprop(atPos ER (kcell (c, k)) 0 ∅ 0 ∗ reached ER (kcell (c, k)) 0)) ∗ toks (F := F) c)

/-- What is device `c`'s alone: its positions, the duties it pays, its local semaphores. -/
def lin : sProp 𝕄 := iprop((bigSep Finset.univ fun k : CK => atPos ER (kcell (c, k)) 0 ∅ 0) ∗ payToks (F := F) c ∗ locSems (F := F) c)
def G' : sProp 𝕄 := iprop(∃ K, records SV K ∗ lin (F := F) c)

theorem fund_ring : BI.own (ER (initOf ringCells ringToks)) ⊢ (|==> bigSep Finset.univ (G SV) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks (F := F) c := by
    unfold ringToks; rw [bigSep_map, bigSep_univ_prod]
    refine bigSep_congr fun c _ => ?_
    unfold toks
    rw [bigSep_univ_sum, over_bool]
    have e : (bigSep Finset.univ (fun b : Bool => (dutyTok ER (barCell c) 0 b : sProp 𝕄))) = iprop(dutyTok ER (barCell c) 0 false ∗ dutyTok ER (barCell c) 0 true) :=
      bigSep_univ_eq_bigSepL [false, true] (by decide) (by decide) _
    rw [← e]
    rfl
  iintro HX
  imod (Rounds.fund ER (ringRd SV) ringCells ringToks) $$ HX with ⟨Hst, Hr, Hat, Htok⟩
  imodintro
  ihave Hst' := (Entails.of_eq (hX fun g => roundState ER (ringRd SV) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc :
    iprop(Pipeline.ownSems0 (Ix := Unit) (Name := ℕ) (U := UU) (Lvl := ℕ) (Val := Elt F) (τ := τ) lsem c ∗ unscopedSems0 c ∗ G SV c)
      ⊢ |={Set.univ}=> iprop((bigSep Finset.univ fun k : CK => iprop(∃ κ : ℕ, cellInv ER (ringRd SV) κ (kcell (c, k))))
          ∗ ((bigSep Finset.univ fun k : CK => atPos ER (kcell (c, k)) 0 ∅ 0) ∗ bigSep Finset.univ fun k : CK => reached ER (kcell (c, k)) 0) ∗ toks (F := F) c ∗ locSems (F := F) c) := by
  unfold G
  rw [bigSep_sep']
  iintro ⟨Hos, Hus, Hst, Hat, Htok⟩
  ihave Hv := (cell_sems (F := F) c) $$ [Hos Hus]
  · isplitl [Hos] <;> iassumption
  icases Hv with ⟨Hv, Hl⟩
  imod (show iprop((bigSep Finset.univ fun k : CK => semVal (kcell (c, k)) 0) ∗ bigSep Finset.univ fun k : CK => roundState ER (ringRd SV) (kcell (c, k)) 0)
      ⊢ (|={Set.univ}=> bigSep Finset.univ fun k : CK => iprop(∃ κ : ℕ, cellInv ER (ringRd SV) κ (kcell (c, k))) : sProp 𝕄) from by
        rw [← bigSep_sep']
        exact (bigSep_mono fun k _ => (Rounds.body_intro ER (ringRd SV) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- The ring as a permutation of the devices, either way round. -/
def turn (d : Bool) : Dev nD ≃ Dev nD := ⟨peer d, back d, back_peer d, peer_back d⟩

/-- Every duty to the device that pays it. -/
theorem toks_around : (bigSep Finset.univ fun c : Dev nD => (toks (F := F) c : sProp 𝕄)) ⊢ bigSep Finset.univ fun c : Dev nD => payToks (F := F) c := by
  have e : (bigSep Finset.univ fun c : Dev nD => bigSep Finset.univ (fun x : Xf => (dutyTok ER (rcvCell c x) 0 false : sProp 𝕄)))
      = bigSep Finset.univ fun c : Dev nD => bigSep Finset.univ (fun x : Xf => dutyTok ER (rcvCell (peer x.1 c) x) 0 false) := by
    rw [bigSep_univ_comm]
    refine Eq.trans ?_ (bigSep_univ_comm _).symm
    exact bigSep_congr fun x _ => bigSep_univ_equiv (turn x.1) (fun c : Dev nD => (dutyTok ER (rcvCell c x) 0 false : sProp 𝕄))
  unfold toks payToks
  rw [bigSep_sep', bigSep_sep', bigSep_sep', bigSep_sep', bigSep_sep', bigSep_sep', e,
    bigSep_univ_equiv (turn true) (fun c : Dev nD => (dutyTok ER (barCell c) 0 false : sProp 𝕄)),
    bigSep_univ_equiv (turn false) (fun c : Dev nD => (dutyTok ER (barCell c) 0 true : sProp 𝕄))]
  exact BI.Entails.refl _

theorem deal (K : Dev nD × CK → ℕ) : iprop(records SV K ∗ lin (F := F) c) ⊢ G' SV c := by
  unfold G'
  iintro H
  iexists K
  iexact H

theorem regroup :
    (bigSep Finset.univ fun c : Dev nD => iprop((bigSep Finset.univ fun k : CK => iprop(∃ κ : ℕ, cellInv ER (ringRd SV) κ (kcell (c, k))))
          ∗ ((bigSep Finset.univ fun k : CK => atPos ER (kcell (c, k)) 0 ∅ 0) ∗ bigSep Finset.univ fun k : CK => reached ER (kcell (c, k)) 0) ∗ toks (F := F) c ∗ locSems (F := F) c) : sProp 𝕄)
      ⊢ bigSep Finset.univ (G' SV) := by
  rw [bigSep_sep', bigSep_sep', bigSep_sep', bigSep_sep', ← bigSep_univ_prod (fun ck : Dev nD × CK => iprop(∃ κ : ℕ, cellInv ER (ringRd SV) κ (kcell ck))),
    ← bigSep_univ_prod (fun ck : Dev nD × CK => (reached ER (kcell ck) 0 : sProp 𝕄))]
  iintro ⟨HI, ⟨Hat, #HR⟩, Htok, Hl⟩
  ihave HK := (BI.bigSep_exists_pi Finset.univ (fun (ck : Dev nD × CK) (κ : ℕ) => (cellInv ER (ringRd SV) κ (kcell ck) : sProp 𝕄))) $$ HI
  icases HK with ⟨%K, #HI⟩
  ihave Htk := (toks_around (F := F)) $$ Htok
  iapply (bigSep_with_persistent (R := records SV K) fun c _ => deal SV c K)
  isplitr
  · unfold records; isplitl; · iexact HI
    iexact HR
  · unfold lin
    rw [bigSep_sep', bigSep_sep']
    isplitl [Hat]; · iexact Hat
    isplitl [Htk] <;> iassumption

/-- The launch's global step. -/
theorem glob : (bigSep Finset.univ fun c => iprop(Pipeline.ownSems0 (Ix := Unit) (Name := ℕ) (U := UU) (Lvl := ℕ) (Val := Elt F) (τ := τ) lsem c ∗ unscopedSems0 c ∗ G SV c) : sProp 𝕄)
    ⊢ |={Set.univ}=> bigSep Finset.univ (G' SV) :=
  ((bigSep_mono fun c _ => core_alloc SV c).trans (bigSep_fupd _ _)).trans (BI.fupd_mono (regroup SV))

/-! ## The credit dealt at launch -/

theorem owedL_sum (l : List Xf) : owedL c l = (l.map fun x => (tallyAt (rcvCell (peer x.1 c) x) () N : CellTallies nD τ sig Unit)).sum := by
  induction l with
  | nil => rfl
  | cons x l ih => unfold owedL; rw [ih, List.map_cons, List.sum_cons, add_comm]

theorem owed_all : owedL c allX = ∑ x : Xf, (tallyAt (rcvCell (peer x.1 c) x) () N : CellTallies nD τ sig Unit) := by
  rw [owedL_sum, ← List.sum_toFinset _ (by decide : allX.Nodup), (by decide : allX.toFinset = Finset.univ)]

theorem creds : (Pipeline.launchCred O₀ c : sProp 𝕄)
    ⊢ iprop(cred (tallyAt (barCell c) () 2) ∗ bigSep Finset.univ fun x : Xf => cred (tallyAt (rcvCell c x) () N)) := by
  have e : (O₀ : Dev nD → CellTallies nD τ sig Unit) = fun d => ((∑ x : Xf, tallyAt (rcvCell (peer x.1 d) x) () N) + tallyAt (barCell (nxt d)) () 1) + tallyAt (barCell (prv d)) () 1 := by
    funext d; unfold O₀ O₁; rw [owed_all]
  have hr : (bigSep Finset.univ (fun x : Xf => Pipeline.launchCred (fun d : Dev nD => (tallyAt (rcvCell (peer x.1 d) x) () N : CellTallies nD τ sig Unit)) c) : sProp 𝕄)
      ⊢ bigSep Finset.univ fun x : Xf => cred (tallyAt (rcvCell c x) () N) :=
    bigSep_mono fun x _ => Pipeline.launchCred_tallyAt (SemLoc.dma (rcvS x)) (peer x.1) (back x.1) (peer_back x.1) (back_peer x.1) () N c
  rw [e, Pipeline.launchCred_add (fun d : Dev nD => (∑ x : Xf, (tallyAt (rcvCell (peer x.1 d) x) () N : CellTallies nD τ sig Unit)) + tallyAt (barCell (nxt d)) () 1),
    Pipeline.launchCred_add (fun d : Dev nD => ∑ x : Xf, (tallyAt (rcvCell (peer x.1 d) x) () N : CellTallies nD τ sig Unit)),
    Pipeline.launchCred_sum Finset.univ (fun (x : Xf) (d : Dev nD) => (tallyAt (rcvCell (peer x.1 d) x) () N : CellTallies nD τ sig Unit))]
  iintro ⟨⟨HR, HN⟩, HP⟩
  isplitl [HN HP]
  · iapply ((cred_add (tallyAt (barCell c) () 1) (tallyAt (barCell c) () 1)).2.trans (Entails.of_eq (congrArg cred (tallyAt_add (barCell c) () 1 1))))
    isplitl [HN]
    · iapply (Pipeline.launchCred_tallyAt (SemLoc.reg barS) nxt prv nxt_prv prv_nxt () 1 c); iexact HN
    · iapply (Pipeline.launchCred_tallyAt (SemLoc.reg barS) prv nxt prv_nxt nxt_prv () 1 c); iexact HP
  · iapply hr
    iexact HR

end Ghost

end Cert.GemmProof
-- ==== Proof.Parts0.lean ====
/-
The kernel's first part: a device's own rows, cast and stored, and the barrier.
-/
module

public import proofs.«01_k».proof.Proof.Xfers

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (V : Vals F) (K : Dev nD × CK → ℕ) (c : Dev nD)

def Xin : sProp 𝕄 := mPts c xM fullShare (V.X c)
/-- What a device owes as the kernel starts. -/
def Ow0 : sProp 𝕄 := iprop(∃ W, owes (c : Thread nD τ) (O₀ c) W)

theorem s_xload (d : Bool) {hl : xM.view.LoadsAt (halfR d).toLoadRect} {α : Type} {Q : α → sProp 𝕄} {k : (S512x4096.Idx → Elt F .f32) → Prog (TpuEff nD τ sig (Elt F) Λ₀ .tc) α} :
    (Xin V c : sProp 𝕄) ⊢ iprop((Xin V c -∗ WP c (k (xM.view.readAt (Elt F) (halfR d).toLoadRect (xM.view.rep (V.X c)))) Q) -∗ WP c (.op (.load xM (halfR d).toLoadRect hl) k) Q) :=
  step_load c xM (halfR d).toLoadRect fullShare (V.X c)

/-- The store of a device's rows, under either payload's name. -/
theorem s_ownput (d : Bool) {w : S1x512x4096.Idx → Elt F .fp8e4m3} (hw : w = castRows V c d) {hx : ((bufM d).access ownR).Stores Finset.univ} {hm : (Finset.univ : Finset ownR.shape.Idx) = Finset.univ ∨ ∀ a, ownR.stride a = 1}
    {α : Type} {Q : α → sProp 𝕄} {k : PUnit → Prog (TpuEff nD τ sig (Elt F) Λ₀ .tc) α} :
    (Buf0 (F := F) c d : sProp 𝕄) ⊢ iprop((BufOwn V c d -∗ WP c (k ⟨⟩) Q) -∗ WP c (.op (.store (bufM d) ownR w Finset.univ hx hm) k) Q) := by
  subst hw
  exact s_ownstore V c d

theorem part1 {Q : (Σ' (d0 : Dev nD) (v2 : BitVec 32) (v4 : BitVec 32), BitVec 32) → sProp 𝕄} :
    (iprop(env (SV V) K ∗ Xin V c ∗ Buf0 (F := F) c false ∗ Buf0 (F := F) c true ∗ BarReady (F := F) c ∗ Ow0 (F := F) c) : sProp 𝕄)
      ⊢ iprop(((Xin V c ∗ (SlL V c 0 0 false ∗ SlR V c 0 0 false) ∗ (SlL V c 0 1 false ∗ SlR V c 0 1 false) ∗ (SlL V c 0 0 true ∗ SlR V c 0 0 true) ∗ (SlL V c 0 1 true ∗ SlR V c 0 1 true)
          ∗ semVal (barCell c) 0 ∗ barPay (F := F) c false ∗ barPay (F := F) c true ∗ Ow c allX) -∗ Q ⟨c, (Scalar.remsi (Scalar.divsi (Dev.word c) 1#32) 4#32), (Scalar.remsi (Scalar.addi (Scalar.remsi (Scalar.divsi (Dev.word c) 1#32) 4#32) 3#32) 4#32), (Scalar.remsi (Scalar.addi (Scalar.remsi (Scalar.divsi (Dev.word c) 1#32) 4#32) 1#32) 4#32)⟩)
        -∗ WP c (k0_part1_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10) Q) := by
  unfold k0_part1_skel BarReady Ow0
  iintro ⟨#He, HX, HF, HB, ⟨Ht0, Ht1, Hc, Hat⟩, ⟨%W, HO⟩⟩ Hk
  simp only [semSignalWord, semWaitWord, smemLoad, smemLoadElt, Prog.lift, Prog.bind_op, Prog.bind_ret, Prog.pure_eq_ret, wp_deviceId]
  iapply (s_xload V c false) $$ HX
  iintro HX
  iapply (s_owndead c false) $$ HF
  iintro %_ HF
  iapply (s_ownput V c false rfl) $$ HF
  iintro HF
  iapply (s_xload V c true) $$ HX
  iintro HX
  iapply (s_owndead c true) $$ HB
  iintro %_ HB
  iapply (s_ownput V c true rfl) $$ HB
  iintro HB
  unfold BufOwn
  icases HF with ⟨HF0, HF1, HFl⟩
  icases HB with ⟨HB0, HB1, HBl⟩
  iapply (step_signal (SV V) K c _ (prv c) false rfl (Fin.ext (k0_dev1_eq c)) (O₁ c) W rfl) $$ [Ht0 HO HFl]
  · isplitr; · iexact He
    isplitl [Ht0]; · iexact Ht0
    isplitl [HO]; · iexact HO
    iexact HFl
  iintro HO
  iapply (step_signal (SV V) K c _ (nxt c) true rfl (Fin.ext (k0_dev2_eq c)) (owedL c allX) W rfl) $$ [Ht1 HO HBl]
  · isplitr; · iexact He
    isplitl [Ht1]; · iexact Ht1
    isplitl [HO]; · iexact HO
    iexact HBl
  iintro HO
  iapply (step_barrier (SV V) K c allX W rfl) $$ [Hc Hat HO]
  · isplitr; · iexact He
    isplitl [Hc]; · iexact Hc
    isplitl [Hat]; · iexact Hat
    iexact HO
  iintro ⟨Hb, Hp0, Hp1, HO⟩
  simp only [wp_ret]
  imodintro
  iapply Hk
  iframe HX HF0 HF1 HB0 HB1 Hb Hp0 Hp1 HO

end Parts

end Cert.GemmProof
-- ==== Proof.Parts1.lean ====
/-
The kernel's parts 2 to 5: each takes what it touches and leaves what it has made of it.
-/
module

public import proofs.«01_k».proof.Proof.Xfers

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (V : Vals F) (K : Dev nD × CK → ℕ) (c : Dev nD)

theorem part2 (v4 : BitVec 32) (v6 : BitVec 32) {Q : (PUnit) → sProp 𝕄} :
    (iprop(env (SV V) K ∗ SndReady (F := F) c (false, 0, 0) ∗ SlL V c 0 0 false ∗ Ow c [(false, 0, 0), (true, 0, 0), (false, 0, 1), (true, 0, 1), (false, 1, 0), (true, 1, 0), (false, 1, 1), (true, 1, 1), (false, 2, 0), (true, 2, 0), (false, 2, 1), (true, 2, 1)] ∗ SndReady (F := F) c (true, 0, 0) ∗ SlL V c 0 0 true) : sProp 𝕄)
      ⊢ iprop(((SndSent (F := F) c (false, 0, 0) ∗ SndSent (F := F) c (true, 0, 0) ∗ Ow c [(false, 0, 1), (true, 0, 1), (false, 1, 0), (true, 1, 0), (false, 1, 1), (true, 1, 1), (false, 2, 0), (true, 2, 0), (false, 2, 1), (true, 2, 1)]) -∗ Q ⟨⟩)
        -∗ WP c (k0_part2_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v4 v6) Q) := by
  unfold k0_part2_skel
  iintro ⟨#He, HSndReadyF00, HSlL00F, HOw, HSndReadyT00, HSlL00T⟩ Hk
  simp only [semSignalWord, semWaitWord, smemLoad, smemLoadElt, Prog.lift, Prog.bind_op, Prog.bind_ret, Prog.pure_eq_ret]
  iapply (s_send V K c false 0 0 0 rfl _ (cw_peer c (k0_dev3_eq c)) [(true, 0, 0), (false, 0, 1), (true, 0, 1), (false, 1, 0), (true, 1, 0), (false, 1, 1), (true, 1, 1), (false, 2, 0), (true, 2, 0), (false, 2, 1), (true, 2, 1)]) $$ [HSndReadyF00 HSlL00F HOw]
  · iframe He HSndReadyF00 HSlL00F HOw
  iintro ⟨HSndSentF00, HOw⟩
  iapply (s_send V K c true 0 0 0 rfl _ (ccw_peer c (k0_dev4_eq c)) [(false, 0, 1), (true, 0, 1), (false, 1, 0), (true, 1, 0), (false, 1, 1), (true, 1, 1), (false, 2, 0), (true, 2, 0), (false, 2, 1), (true, 2, 1)]) $$ [HSndReadyT00 HSlL00T HOw]
  · iframe He HSndReadyT00 HSlL00T HOw
  iintro ⟨HSndSentT00, HOw⟩
  simp only [wp_ret]
  imodintro
  iapply Hk
  iframe HSndSentF00 HSndSentT00 HOw

theorem part3 (v2 : BitVec 32) (v4 : BitVec 32) {Q : (PUnit) → sProp 𝕄} :
    (iprop(env (SV V) K ∗ SndReady (F := F) c (false, 0, 1) ∗ SlL V c 0 1 false ∗ Ow c [(false, 0, 1), (true, 0, 1), (false, 1, 0), (true, 1, 0), (false, 1, 1), (true, 1, 1), (false, 2, 0), (true, 2, 0), (false, 2, 1), (true, 2, 1)] ∗ SndReady (F := F) c (true, 0, 1) ∗ SlL V c 0 1 true ∗ WBlk V c 0 ∗ StIdle (F := F) c 0 ∗ WBlk V c 1 ∗ StIdle (F := F) c 1) : sProp 𝕄)
      ⊢ iprop(((SndSent (F := F) c (false, 0, 1) ∗ SndSent (F := F) c (true, 0, 1) ∗ Ow c [(false, 1, 0), (true, 1, 0), (false, 1, 1), (true, 1, 1), (false, 2, 0), (true, 2, 0), (false, 2, 1), (true, 2, 1)] ∗ WFly V c 0 0 ∗ WFly V c 1 1) -∗ Q ⟨⟩)
        -∗ WP c (k0_part3_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v2 v4) Q) := by
  unfold k0_part3_skel
  iintro ⟨#He, HSndReadyF01, HSlL01F, HOw, HSndReadyT01, HSlL01T, HWBlk0, HStIdle0, HWBlk1, HStIdle1⟩ Hk
  simp only [semSignalWord, semWaitWord, smemLoad, smemLoadElt, Prog.lift, Prog.bind_op, Prog.bind_ret, Prog.pure_eq_ret]
  iapply (s_send V K c false 0 1 0 rfl _ (cw_peer c (k0_dev5_eq c)) [(true, 0, 1), (false, 1, 0), (true, 1, 0), (false, 1, 1), (true, 1, 1), (false, 2, 0), (true, 2, 0), (false, 2, 1), (true, 2, 1)]) $$ [HSndReadyF01 HSlL01F HOw]
  · iframe He HSndReadyF01 HSlL01F HOw
  iintro ⟨HSndSentF01, HOw⟩
  iapply (s_send V K c true 0 1 0 rfl _ (ccw_peer c (k0_dev6_eq c)) [(false, 1, 0), (true, 1, 0), (false, 1, 1), (true, 1, 1), (false, 2, 0), (true, 2, 0), (false, 2, 1), (true, 2, 1)]) $$ [HSndReadyT01 HSlL01T HOw]
  · iframe He HSndReadyT01 HSlL01T HOw
  iintro ⟨HSndSentT01, HOw⟩
  iapply (s_fetch V c 0 0) $$ [HWBlk0 HStIdle0]
  · iframe HWBlk0 HStIdle0
  iintro HWFly00
  iapply (s_fetch V c 1 1) $$ [HWBlk1 HStIdle1]
  · iframe HWBlk1 HStIdle1
  iintro HWFly11
  simp only [wp_ret]
  imodintro
  iapply Hk
  iframe HSndSentF01 HSndSentT01 HOw HWFly00 HWFly11

theorem part4 (v2 : BitVec 32) {Q : (PUnit) → sProp 𝕄} :
    (iprop(env (SV V) K ∗ WFly V c 0 0 ∗ Ow c [(false, 1, 0), (true, 1, 0), (false, 1, 1), (true, 1, 1), (false, 2, 0), (true, 2, 0), (false, 2, 1), (true, 2, 1)] ∗ W8P V c 0 ∗ WBlk V c 2 ∗ WFly V c 1 1) : sProp 𝕄)
      ⊢ iprop(((WBlk V c 0 ∗ WFly V c 0 2 ∗ WBlk V c 1 ∗ Ow c [(false, 1, 0), (true, 1, 0), (false, 1, 1), (true, 1, 1), (false, 2, 0), (true, 2, 0), (false, 2, 1), (true, 2, 1)] ∗ StIdle (F := F) c 1 ∗ W8P V c 2) -∗ Q ⟨⟩)
        -∗ WP c (k0_part4_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v2) Q) := by
  unfold k0_part4_skel
  iintro ⟨#He, HWFly00, HOw, HW8P0, HWBlk2, HWFly11⟩ Hk
  simp only [semSignalWord, semWaitWord, smemLoad, smemLoadElt, Prog.lift, Prog.bind_op, Prog.bind_ret, Prog.pure_eq_ret]
  iapply (s_wwait V K c 0 0 [(false, 1, 0), (true, 1, 0), (false, 1, 1), (true, 1, 1), (false, 2, 0), (true, 2, 0), (false, 2, 1), (true, 2, 1)]) $$ [HWFly00 HOw]
  · iframe He HWFly00 HOw
  iintro ⟨HStFull00, HWBlk0, HOw⟩
  iapply (s_stload V c 0 0) $$ HStFull00
  iintro HStIdle0
  iapply (s_w8dead V c 0 _) $$ HW8P0
  iintro %_ HW8P0
  iapply (s_w8put V c 0 0 1 rfl rfl rfl) $$ HW8P0
  iintro HW8P1
  iapply (s_fetch V c 0 2) $$ [HWBlk2 HStIdle0]
  · iframe HWBlk2 HStIdle0
  iintro HWFly02
  iapply (s_wwait V K c 1 1 [(false, 1, 0), (true, 1, 0), (false, 1, 1), (true, 1, 1), (false, 2, 0), (true, 2, 0), (false, 2, 1), (true, 2, 1)]) $$ [HWFly11 HOw]
  · iframe He HWFly11 HOw
  iintro ⟨HStFull11, HWBlk1, HOw⟩
  iapply (s_stload V c 1 1) $$ HStFull11
  iintro HStIdle1
  iapply (s_w8dead V c 1 _) $$ HW8P1
  iintro %_ HW8P1
  iapply (s_w8put V c 1 1 2 rfl rfl rfl) $$ HW8P1
  iintro HW8P2
  simp only [wp_ret]
  imodintro
  iapply Hk
  iframe HWBlk0 HWFly02 HWBlk1 HOw HStIdle1 HW8P2

theorem part5 (v2 : BitVec 32) {Q : (PUnit) → sProp 𝕄} :
    (iprop(env (SV V) K ∗ WBlk V c 3 ∗ StIdle (F := F) c 1 ∗ WFly V c 0 2 ∗ Ow c [(false, 1, 0), (true, 1, 0), (false, 1, 1), (true, 1, 1), (false, 2, 0), (true, 2, 0), (false, 2, 1), (true, 2, 1)] ∗ W8P V c 2 ∗ WBlk V c 4) : sProp 𝕄)
      ⊢ iprop(((WBlk V c 2 ∗ W8P V c 3 ∗ WFly V c 0 4 ∗ StFull V c 1 3 ∗ WBlk V c 3 ∗ Ow c [(false, 1, 0), (true, 1, 0), (false, 1, 1), (true, 1, 1), (false, 2, 0), (true, 2, 0), (false, 2, 1), (true, 2, 1)]) -∗ Q ⟨⟩)
        -∗ WP c (k0_part5_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v2) Q) := by
  unfold k0_part5_skel
  iintro ⟨#He, HWBlk3, HStIdle1, HWFly02, HOw, HW8P2, HWBlk4⟩ Hk
  simp only [semSignalWord, semWaitWord, smemLoad, smemLoadElt, Prog.lift, Prog.bind_op, Prog.bind_ret, Prog.pure_eq_ret]
  iapply (s_fetch V c 1 3) $$ [HWBlk3 HStIdle1]
  · iframe HWBlk3 HStIdle1
  iintro HWFly13
  iapply (s_wwait V K c 0 2 [(false, 1, 0), (true, 1, 0), (false, 1, 1), (true, 1, 1), (false, 2, 0), (true, 2, 0), (false, 2, 1), (true, 2, 1)]) $$ [HWFly02 HOw]
  · iframe He HWFly02 HOw
  iintro ⟨HStFull02, HWBlk2, HOw⟩
  iapply (s_stload V c 0 2) $$ HStFull02
  iintro HStIdle0
  iapply (s_w8dead V c 2 _) $$ HW8P2
  iintro %_ HW8P2
  iapply (s_w8put V c 2 2 3 rfl rfl rfl) $$ HW8P2
  iintro HW8P3
  iapply (s_fetch V c 0 4) $$ [HWBlk4 HStIdle0]
  · iframe HWBlk4 HStIdle0
  iintro HWFly04
  iapply (s_wwait V K c 1 3 [(false, 1, 0), (true, 1, 0), (false, 1, 1), (true, 1, 1), (false, 2, 0), (true, 2, 0), (false, 2, 1), (true, 2, 1)]) $$ [HWFly13 HOw]
  · iframe He HWFly13 HOw
  iintro ⟨HStFull13, HWBlk3, HOw⟩
  simp only [wp_ret]
  imodintro
  iapply Hk
  iframe HWBlk2 HW8P3 HWFly04 HStFull13 HWBlk3 HOw

end Parts

end Cert.GemmProof
-- ==== Proof.Parts2.lean ====
/-
The kernel's parts 6 to 8: each takes what it touches and leaves what it has made of it.
-/
module

public import proofs.«01_k».proof.Proof.Xfers

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (V : Vals F) (K : Dev nD × CK → ℕ) (c : Dev nD)

theorem part6 (v2 : BitVec 32) {Q : (PUnit) → sProp 𝕄} :
    (iprop(env (SV V) K ∗ StFull V c 1 3 ∗ W8P V c 3 ∗ WBlk V c 5 ∗ WFly V c 0 4 ∗ Ow c [(false, 1, 0), (true, 1, 0), (false, 1, 1), (true, 1, 1), (false, 2, 0), (true, 2, 0), (false, 2, 1), (true, 2, 1)]) : sProp 𝕄)
      ⊢ iprop(((WFly V c 1 5 ∗ WBlk V c 4 ∗ Ow c [(false, 1, 0), (true, 1, 0), (false, 1, 1), (true, 1, 1), (false, 2, 0), (true, 2, 0), (false, 2, 1), (true, 2, 1)] ∗ StIdle (F := F) c 0 ∗ W8P V c 5) -∗ Q ⟨⟩)
        -∗ WP c (k0_part6_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v2) Q) := by
  unfold k0_part6_skel
  iintro ⟨#He, HStFull13, HW8P3, HWBlk5, HWFly04, HOw⟩ Hk
  simp only [semSignalWord, semWaitWord, smemLoad, smemLoadElt, Prog.lift, Prog.bind_op, Prog.bind_ret, Prog.pure_eq_ret]
  iapply (s_stload V c 1 3) $$ HStFull13
  iintro HStIdle1
  iapply (s_w8dead V c 3 _) $$ HW8P3
  iintro %_ HW8P3
  iapply (s_w8put V c 3 3 4 rfl rfl rfl) $$ HW8P3
  iintro HW8P4
  iapply (s_fetch V c 1 5) $$ [HWBlk5 HStIdle1]
  · iframe HWBlk5 HStIdle1
  iintro HWFly15
  iapply (s_wwait V K c 0 4 [(false, 1, 0), (true, 1, 0), (false, 1, 1), (true, 1, 1), (false, 2, 0), (true, 2, 0), (false, 2, 1), (true, 2, 1)]) $$ [HWFly04 HOw]
  · iframe He HWFly04 HOw
  iintro ⟨HStFull04, HWBlk4, HOw⟩
  iapply (s_stload V c 0 4) $$ HStFull04
  iintro HStIdle0
  iapply (s_w8dead V c 4 _) $$ HW8P4
  iintro %_ HW8P4
  iapply (s_w8put V c 4 4 5 rfl rfl rfl) $$ HW8P4
  iintro HW8P5
  simp only [wp_ret]
  imodintro
  iapply Hk
  iframe HWFly15 HWBlk4 HOw HStIdle0 HW8P5

theorem part7 (v2 : BitVec 32) {Q : (FVec F S512x2048 .fp8e4m3) → sProp 𝕄} :
    (iprop(env (SV V) K ∗ WBlk V c 6 ∗ StIdle (F := F) c 0 ∗ WFly V c 1 5 ∗ Ow c [(false, 1, 0), (true, 1, 0), (false, 1, 1), (true, 1, 1), (false, 2, 0), (true, 2, 0), (false, 2, 1), (true, 2, 1)] ∗ W8P V c 5 ∗ WBlk V c 7) : sProp 𝕄)
      ⊢ iprop(((WBlk V c 5 ∗ W8P V c 6 ∗ WFly V c 1 7 ∗ WBlk V c 6 ∗ Ow c [(false, 1, 0), (true, 1, 0), (false, 1, 1), (true, 1, 1), (false, 2, 0), (true, 2, 0), (false, 2, 1), (true, 2, 1)] ∗ StIdle (F := F) c 0) -∗ Q (k0_pay9 (shapeCast S1x512x2048 (WB V c 6) casts_512_1x512)))
        -∗ WP c (k0_part7_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v2) Q) := by
  unfold k0_part7_skel
  iintro ⟨#He, HWBlk6, HStIdle0, HWFly15, HOw, HW8P5, HWBlk7⟩ Hk
  simp only [semSignalWord, semWaitWord, smemLoad, smemLoadElt, Prog.lift, Prog.bind_op, Prog.bind_ret, Prog.pure_eq_ret]
  iapply (s_fetch V c 0 6) $$ [HWBlk6 HStIdle0]
  · iframe HWBlk6 HStIdle0
  iintro HWFly06
  iapply (s_wwait V K c 1 5 [(false, 1, 0), (true, 1, 0), (false, 1, 1), (true, 1, 1), (false, 2, 0), (true, 2, 0), (false, 2, 1), (true, 2, 1)]) $$ [HWFly15 HOw]
  · iframe He HWFly15 HOw
  iintro ⟨HStFull15, HWBlk5, HOw⟩
  iapply (s_stload V c 1 5) $$ HStFull15
  iintro HStIdle1
  iapply (s_w8dead V c 5 _) $$ HW8P5
  iintro %_ HW8P5
  iapply (s_w8put V c 5 5 6 rfl rfl rfl) $$ HW8P5
  iintro HW8P6
  iapply (s_fetch V c 1 7) $$ [HWBlk7 HStIdle1]
  · iframe HWBlk7 HStIdle1
  iintro HWFly17
  iapply (s_wwait V K c 0 6 [(false, 1, 0), (true, 1, 0), (false, 1, 1), (true, 1, 1), (false, 2, 0), (true, 2, 0), (false, 2, 1), (true, 2, 1)]) $$ [HWFly06 HOw]
  · iframe He HWFly06 HOw
  iintro ⟨HStFull06, HWBlk6, HOw⟩
  iapply (s_stload V c 0 6) $$ HStFull06
  iintro HStIdle0
  simp only [wp_ret]
  imodintro
  iapply Hk
  iframe HWBlk5 HW8P6 HWFly17 HWBlk6 HOw HStIdle0

theorem part8 (v2 : BitVec 32) {Q : (F .f32) → sProp 𝕄} :
    (iprop(env (SV V) K ∗ W8P V c 6 ∗ WFly V c 1 7 ∗ Ow c [(false, 1, 0), (true, 1, 0), (false, 1, 1), (true, 1, 1), (false, 2, 0), (true, 2, 0), (false, 2, 1), (true, 2, 1)] ∗ Sx V c ∗ Sw V c ∗ SlR V c 0 0 false ∗ OIdle (F := F) c 0) : sProp 𝕄)
      ⊢ iprop(((WBlk V c 7 ∗ Ow c [(false, 1, 0), (true, 1, 0), (false, 1, 1), (true, 1, 1), (false, 2, 0), (true, 2, 0), (false, 2, 1), (true, 2, 1)] ∗ StIdle (F := F) c 1 ∗ Sx V c ∗ Sw V c ∗ SlR V c 0 0 false ∗ W8F V c ∗ OSto V c 0 0 0 false) -∗ Q (scl V c))
        -∗ WP c (k0_part8_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v2 (k0_pay9 (shapeCast S1x512x2048 (WB V c 6) casts_512_1x512))) Q) := by
  unfold k0_part8_skel
  iintro ⟨#He, HW8P6, HWFly17, HOw, HSxVc, HSwVc, HSlR00F, HOIdle0⟩ Hk
  simp only [semSignalWord, semWaitWord, smemLoad, smemLoadElt, Prog.lift, Prog.bind_op, Prog.bind_ret, Prog.pure_eq_ret]
  iapply (s_w8dead V c 6 _) $$ HW8P6
  iintro %_ HW8P6
  iapply (s_w8put V c 6 6 7 rfl rfl rfl) $$ HW8P6
  iintro HW8P7
  iapply (s_wwait V K c 1 7 [(false, 1, 0), (true, 1, 0), (false, 1, 1), (true, 1, 1), (false, 2, 0), (true, 2, 0), (false, 2, 1), (true, 2, 1)]) $$ [HWFly17 HOw]
  · iframe He HWFly17 HOw
  iintro ⟨HStFull17, HWBlk7, HOw⟩
  iapply (s_stload V c 1 7) $$ HStFull17
  iintro HStIdle1
  iapply (s_w8dead V c 7 _) $$ HW8P7
  iintro %_ HW8P7
  iapply (s_w8put V c 7 7 8 rfl rfl rfl) $$ HW8P7
  iintro HW8P8
  ihave HW8FVc := (w8_done V c) $$ HW8P8
  iapply (s_sx V c) $$ HSxVc
  iintro HSxVc
  iapply (s_sw V c) $$ HSwVc
  iintro HSwVc
  iapply (s_slabload V c 0 0 false) $$ HSlR00F
  iintro HSlR00F
  iapply (s_w8load V c) $$ HW8FVc
  iintro HW8FVc
  iapply (s_osdead c 0) $$ HOIdle0
  iintro %_ HOIdle0
  iapply (s_ostore V c 0 0 0 false rfl) $$ HOIdle0
  iintro HOSto000F
  simp only [wp_ret]
  imodintro
  rw [show k0_pay12 (V.sx c ix1) (V.sw c ix1) = scl V c from rfl]
  iapply Hk
  iframe HWBlk7 HOw HStIdle1 HSxVc HSwVc HSlR00F HW8FVc HOSto000F

end Parts

end Cert.GemmProof
-- ==== Proof.Parts3.lean ====
/-
The kernel's parts 9 to 12: each takes what it touches and leaves what it has made of it.
-/
module

public import proofs.«01_k».proof.Proof.Xfers

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (V : Vals F) (K : Dev nD × CK → ℕ) (c : Dev nD)

theorem part9 (v2 : BitVec 32) {Q : (FVec F S256x4096 .fp8e4m3) → sProp 𝕄} :
    (iprop(env (SV V) K ∗ OSto V c 0 0 0 false ∗ OSem (F := F) c 0 ∗ Out0 (F := F) c 0 0 false ∗ SlR V c 0 0 true ∗ W8F V c ∗ OIdle (F := F) c 1 ∗ OSem (F := F) c 1 ∗ Out0 (F := F) c 0 0 true ∗ SlR V c 0 1 false) : sProp 𝕄)
      ⊢ iprop(((OFly V c 0 0 0 false ∗ SlR V c 0 0 true ∗ W8F V c ∗ OFly V c 1 0 0 true ∗ SlR V c 0 1 false) -∗ Q (k0_pay15 (lslab (SV V (hop false 0 c) false 1))))
        -∗ WP c (k0_part9_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v2 (scl V c)) Q) := by
  unfold k0_part9_skel
  iintro ⟨#He, HOSto000F, HOSem0, HOut000F, HSlR00T, HW8FVc, HOIdle1, HOSem1, HOut000T, HSlR01F⟩ Hk
  simp only [semSignalWord, semWaitWord, smemLoad, smemLoadElt, Prog.lift, Prog.bind_op, Prog.bind_ret, Prog.pure_eq_ret]
  iapply (s_ocopy V c 0 0 0 false) $$ [HOSto000F HOSem0 HOut000F]
  · iframe HOSto000F HOSem0 HOut000F
  iintro HOFly000F
  iapply (s_slabload V c 0 0 true) $$ HSlR00T
  iintro HSlR00T
  iapply (s_w8load V c) $$ HW8FVc
  iintro HW8FVc
  iapply (s_osdead c 1) $$ HOIdle1
  iintro %_ HOIdle1
  iapply (s_ostore V c 1 0 0 true rfl) $$ HOIdle1
  iintro HOSto100T
  iapply (s_ocopy V c 1 0 0 true) $$ [HOSto100T HOSem1 HOut000T]
  · iframe HOSto100T HOSem1 HOut000T
  iintro HOFly100T
  iapply (s_slabload V c 0 1 false) $$ HSlR01F
  iintro HSlR01F
  simp only [wp_ret]
  imodintro
  iapply Hk
  iframe HOFly000F HSlR00T HW8FVc HOFly100T HSlR01F

theorem part10 (v2 : BitVec 32) {Q : (PUnit) → sProp 𝕄} :
    (iprop(env (SV V) K ∗ W8F V c ∗ OIdle (F := F) c 2 ∗ OSem (F := F) c 2 ∗ Out0 (F := F) c 0 1 false ∗ SlR V c 0 1 true ∗ OIdle (F := F) c 3) : sProp 𝕄)
      ⊢ iprop(((OFly V c 2 0 1 false ∗ SlR V c 0 1 true ∗ W8F V c ∗ OSto V c 3 0 1 true) -∗ Q ⟨⟩)
        -∗ WP c (k0_part10_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v2 (scl V c) (k0_pay15 (lslab (SV V (hop false 0 c) false 1)))) Q) := by
  unfold k0_part10_skel
  iintro ⟨#He, HW8FVc, HOIdle2, HOSem2, HOut001F, HSlR01T, HOIdle3⟩ Hk
  simp only [semSignalWord, semWaitWord, smemLoad, smemLoadElt, Prog.lift, Prog.bind_op, Prog.bind_ret, Prog.pure_eq_ret]
  iapply (s_w8load V c) $$ HW8FVc
  iintro HW8FVc
  iapply (s_osdead c 2) $$ HOIdle2
  iintro %_ HOIdle2
  iapply (s_ostore V c 2 0 1 false rfl) $$ HOIdle2
  iintro HOSto201F
  iapply (s_ocopy V c 2 0 1 false) $$ [HOSto201F HOSem2 HOut001F]
  · iframe HOSto201F HOSem2 HOut001F
  iintro HOFly201F
  iapply (s_slabload V c 0 1 true) $$ HSlR01T
  iintro HSlR01T
  iapply (s_w8load V c) $$ HW8FVc
  iintro HW8FVc
  iapply (s_osdead c 3) $$ HOIdle3
  iintro %_ HOIdle3
  iapply (s_ostore V c 3 0 1 true rfl) $$ HOIdle3
  iintro HOSto301T
  simp only [wp_ret]
  imodintro
  iapply Hk
  iframe HOFly201F HSlR01T HW8FVc HOSto301T

theorem part11 (v2 : BitVec 32) (v6 : BitVec 32) {Q : (Σ' (v286 : BitVec 32), BitVec 32) → sProp 𝕄} :
    (iprop(env (SV V) K ∗ OSto V c 3 0 1 true ∗ OSem (F := F) c 3 ∗ Out0 (F := F) c 0 1 true ∗ RcvReady (F := F) c (false, 0, 0) ∗ Ow c [(false, 1, 0), (true, 1, 0), (false, 1, 1), (true, 1, 1), (false, 2, 0), (true, 2, 0), (false, 2, 1), (true, 2, 1)] ∗ SndReady (F := F) c (false, 1, 0)) : sProp 𝕄)
      ⊢ iprop(((OFly V c 3 0 1 true ∗ RcvDone (F := F) c (false, 0, 0) ∗ SlR V c 1 0 false ∗ SndSent (F := F) c (false, 1, 0) ∗ Ow c [(true, 1, 0), (false, 1, 1), (true, 1, 1), (false, 2, 0), (true, 2, 0), (false, 2, 1), (true, 2, 1)]) -∗ Q ⟨(Scalar.remsi (Scalar.addi v2 3#32) 4#32), (Scalar.remsi (Scalar.addi (Scalar.addi v2 0#32) 1#32) 4#32)⟩)
        -∗ WP c (k0_part11_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v2 v6) Q) := by
  unfold k0_part11_skel
  iintro ⟨#He, HOSto301T, HOSem3, HOut001T, HRcvReadyF00, HOw, HSndReadyF10⟩ Hk
  simp only [semSignalWord, semWaitWord, smemLoad, smemLoadElt, Prog.lift, Prog.bind_op, Prog.bind_ret, Prog.pure_eq_ret]
  iapply (s_ocopy V c 3 0 1 true) $$ [HOSto301T HOSem3 HOut001T]
  · iframe HOSto301T HOSem3 HOut001T
  iintro HOFly301T
  iapply (s_recv V K c false 0 0 1 rfl [(false, 1, 0), (true, 1, 0), (false, 1, 1), (true, 1, 1), (false, 2, 0), (true, 2, 0), (false, 2, 1), (true, 2, 1)] (by decide)) $$ [HRcvReadyF00 HOw]
  · iframe He HRcvReadyF00 HOw
  iintro ⟨HRcvDoneF00, HSlL10F, HSlR10F, HOw⟩
  iapply (s_send V K c false 1 0 1 rfl _ (cw_peer c (k0_dev7_eq c)) [(true, 1, 0), (false, 1, 1), (true, 1, 1), (false, 2, 0), (true, 2, 0), (false, 2, 1), (true, 2, 1)]) $$ [HSndReadyF10 HSlL10F HOw]
  · iframe He HSndReadyF10 HSlL10F HOw
  iintro ⟨HSndSentF10, HOw⟩
  simp only [wp_ret]
  imodintro
  iapply Hk
  iframe HOFly301T HRcvDoneF00 HSlR10F HSndSentF10 HOw

theorem part12 (v4 : BitVec 32) (v286 : BitVec 32) {Q : (FVec F S256x2048 .f32) → sProp 𝕄} :
    (iprop(env (SV V) K ∗ RcvReady (F := F) c (true, 0, 0) ∗ Ow c [(true, 1, 0), (false, 1, 1), (true, 1, 1), (false, 2, 0), (true, 2, 0), (false, 2, 1), (true, 2, 1)] ∗ SndReady (F := F) c (true, 1, 0) ∗ SlR V c 1 0 false ∗ W8F V c) : sProp 𝕄)
      ⊢ iprop(((RcvDone (F := F) c (true, 0, 0) ∗ SlR V c 1 0 true ∗ SndSent (F := F) c (true, 1, 0) ∗ Ow c [(false, 1, 1), (true, 1, 1), (false, 2, 0), (true, 2, 0), (false, 2, 1), (true, 2, 1)] ∗ SlR V c 1 0 false ∗ W8F V c) -∗ Q (k0_pay18 (lslab (SV V (hop false 1 c) false 0)) (W8 V c)))
        -∗ WP c (k0_part12_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v4 v286) Q) := by
  unfold k0_part12_skel
  iintro ⟨#He, HRcvReadyT00, HOw, HSndReadyT10, HSlR10F, HW8FVc⟩ Hk
  simp only [semSignalWord, semWaitWord, smemLoad, smemLoadElt, Prog.lift, Prog.bind_op, Prog.bind_ret, Prog.pure_eq_ret]
  iapply (s_recv V K c true 0 0 1 rfl [(true, 1, 0), (false, 1, 1), (true, 1, 1), (false, 2, 0), (true, 2, 0), (false, 2, 1), (true, 2, 1)] (by decide)) $$ [HRcvReadyT00 HOw]
  · iframe He HRcvReadyT00 HOw
  iintro ⟨HRcvDoneT00, HSlL10T, HSlR10T, HOw⟩
  iapply (s_send V K c true 1 0 1 rfl _ (ccw_peer c (k0_dev8_eq c)) [(false, 1, 1), (true, 1, 1), (false, 2, 0), (true, 2, 0), (false, 2, 1), (true, 2, 1)]) $$ [HSndReadyT10 HSlL10T HOw]
  · iframe He HSndReadyT10 HSlL10T HOw
  iintro ⟨HSndSentT10, HOw⟩
  iapply (s_slabload V c 1 0 false) $$ HSlR10F
  iintro HSlR10F
  iapply (s_w8load V c) $$ HW8FVc
  iintro HW8FVc
  simp only [wp_ret]
  imodintro
  iapply Hk
  iframe HRcvDoneT00 HSlR10T HSndSentT10 HOw HSlR10F HW8FVc

end Parts

end Cert.GemmProof
-- ==== Proof.Parts4.lean ====
/-
The kernel's parts 13 to 16: each takes what it touches and leaves what it has made of it.
-/
module

public import proofs.«01_k».proof.Proof.Xfers

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (V : Vals F) (K : Dev nD × CK → ℕ) (c : Dev nD)

theorem part13 (v289 : BitVec 32) {Q : (FVec F S256x2048 .f32) → sProp 𝕄} :
    (iprop(env (SV V) K ∗ OFly V c 0 0 0 false ∗ Ow c [(false, 1, 1), (true, 1, 1), (false, 2, 0), (true, 2, 0), (false, 2, 1), (true, 2, 1)] ∗ Out0 (F := F) c 1 0 false ∗ SlR V c 1 0 true ∗ W8F V c ∗ OFly V c 1 0 0 true) : sProp 𝕄)
      ⊢ iprop(((OutY V c 0 0 false ∗ OFly V c 0 1 0 false ∗ SlR V c 1 0 true ∗ W8F V c ∗ OIdle (F := F) c 1 ∗ OSem (F := F) c 1 ∗ OutY V c 0 0 true ∗ Ow c [(false, 1, 1), (true, 1, 1), (false, 2, 0), (true, 2, 0), (false, 2, 1), (true, 2, 1)]) -∗ Q (k0_pay20 (scl V c) (lslab (SV V (hop true 1 c) true 0)) (W8 V c)))
        -∗ WP c (k0_part13_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c (scl V c) v289 (k0_pay18 (lslab (SV V (hop false 1 c) false 0)) (W8 V c))) Q) := by
  unfold k0_part13_skel
  iintro ⟨#He, HOFly000F, HOw, HOut010F, HSlR10T, HW8FVc, HOFly100T⟩ Hk
  simp only [semSignalWord, semWaitWord, smemLoad, smemLoadElt, Prog.lift, Prog.bind_op, Prog.bind_ret, Prog.pure_eq_ret]
  iapply (s_owait V K c 0 0 0 false [(false, 1, 1), (true, 1, 1), (false, 2, 0), (true, 2, 0), (false, 2, 1), (true, 2, 1)]) $$ [HOFly000F HOw]
  · iframe He HOFly000F HOw
  iintro ⟨HOIdle0, HOSem0, HOutY00F, HOw⟩
  iapply (s_osdead c 0) $$ HOIdle0
  iintro %_ HOIdle0
  iapply (s_ostore V c 0 1 0 false rfl) $$ HOIdle0
  iintro HOSto010F
  iapply (s_ocopy V c 0 1 0 false) $$ [HOSto010F HOSem0 HOut010F]
  · iframe HOSto010F HOSem0 HOut010F
  iintro HOFly010F
  iapply (s_slabload V c 1 0 true) $$ HSlR10T
  iintro HSlR10T
  iapply (s_w8load V c) $$ HW8FVc
  iintro HW8FVc
  iapply (s_owait V K c 1 0 0 true [(false, 1, 1), (true, 1, 1), (false, 2, 0), (true, 2, 0), (false, 2, 1), (true, 2, 1)]) $$ [HOFly100T HOw]
  · iframe He HOFly100T HOw
  iintro ⟨HOIdle1, HOSem1, HOutY00T, HOw⟩
  simp only [wp_ret]
  imodintro
  iapply Hk
  iframe HOutY00F HOFly010F HSlR10T HW8FVc HOIdle1 HOSem1 HOutY00T HOw

theorem part14 (v6 : BitVec 32) {Q : (PUnit) → sProp 𝕄} :
    (iprop(env (SV V) K ∗ OIdle (F := F) c 1 ∗ OSem (F := F) c 1 ∗ Out0 (F := F) c 1 0 true ∗ RcvReady (F := F) c (false, 0, 1) ∗ Ow c [(false, 1, 1), (true, 1, 1), (false, 2, 0), (true, 2, 0), (false, 2, 1), (true, 2, 1)]) : sProp 𝕄)
      ⊢ iprop(((OFly V c 1 1 0 true ∗ RcvDone (F := F) c (false, 0, 1) ∗ SlL V c 1 1 false ∗ SlR V c 1 1 false ∗ Ow c [(false, 1, 1), (true, 1, 1), (false, 2, 0), (true, 2, 0), (false, 2, 1), (true, 2, 1)]) -∗ Q ⟨⟩)
        -∗ WP c (k0_part14_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v6 (k0_pay20 (scl V c) (lslab (SV V (hop true 1 c) true 0)) (W8 V c))) Q) := by
  unfold k0_part14_skel
  iintro ⟨#He, HOIdle1, HOSem1, HOut010T, HRcvReadyF01, HOw⟩ Hk
  simp only [semSignalWord, semWaitWord, smemLoad, smemLoadElt, Prog.lift, Prog.bind_op, Prog.bind_ret, Prog.pure_eq_ret]
  iapply (s_osdead c 1) $$ HOIdle1
  iintro %_ HOIdle1
  iapply (s_ostore V c 1 1 0 true rfl) $$ HOIdle1
  iintro HOSto110T
  iapply (s_ocopy V c 1 1 0 true) $$ [HOSto110T HOSem1 HOut010T]
  · iframe HOSto110T HOSem1 HOut010T
  iintro HOFly110T
  iapply (s_recv V K c false 0 1 1 rfl [(false, 1, 1), (true, 1, 1), (false, 2, 0), (true, 2, 0), (false, 2, 1), (true, 2, 1)] (by decide)) $$ [HRcvReadyF01 HOw]
  · iframe He HRcvReadyF01 HOw
  iintro ⟨HRcvDoneF01, HSlL11F, HSlR11F, HOw⟩
  simp only [wp_ret]
  imodintro
  iapply Hk
  iframe HOFly110T HRcvDoneF01 HSlL11F HSlR11F HOw

theorem part15 (v4 : BitVec 32) (v286 : BitVec 32) {Q : (FVec F S256x2048 .f32) → sProp 𝕄} :
    (iprop(env (SV V) K ∗ SndReady (F := F) c (false, 1, 1) ∗ SlL V c 1 1 false ∗ Ow c [(false, 1, 1), (true, 1, 1), (false, 2, 0), (true, 2, 0), (false, 2, 1), (true, 2, 1)] ∗ RcvReady (F := F) c (true, 0, 1) ∗ SndReady (F := F) c (true, 1, 1) ∗ SlR V c 1 1 false ∗ W8F V c) : sProp 𝕄)
      ⊢ iprop(((SndSent (F := F) c (false, 1, 1) ∗ RcvDone (F := F) c (true, 0, 1) ∗ SlR V c 1 1 true ∗ SndSent (F := F) c (true, 1, 1) ∗ Ow c [(false, 2, 0), (true, 2, 0), (false, 2, 1), (true, 2, 1)] ∗ SlR V c 1 1 false ∗ W8F V c) -∗ Q (k0_pay22 (lslab (SV V (hop false 1 c) false 1)) (W8 V c)))
        -∗ WP c (k0_part15_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v4 v286) Q) := by
  unfold k0_part15_skel
  iintro ⟨#He, HSndReadyF11, HSlL11F, HOw, HRcvReadyT01, HSndReadyT11, HSlR11F, HW8FVc⟩ Hk
  simp only [semSignalWord, semWaitWord, smemLoad, smemLoadElt, Prog.lift, Prog.bind_op, Prog.bind_ret, Prog.pure_eq_ret]
  iapply (s_send V K c false 1 1 1 rfl _ (cw_peer c (k0_dev9_eq c)) [(true, 1, 1), (false, 2, 0), (true, 2, 0), (false, 2, 1), (true, 2, 1)]) $$ [HSndReadyF11 HSlL11F HOw]
  · iframe He HSndReadyF11 HSlL11F HOw
  iintro ⟨HSndSentF11, HOw⟩
  iapply (s_recv V K c true 0 1 1 rfl [(true, 1, 1), (false, 2, 0), (true, 2, 0), (false, 2, 1), (true, 2, 1)] (by decide)) $$ [HRcvReadyT01 HOw]
  · iframe He HRcvReadyT01 HOw
  iintro ⟨HRcvDoneT01, HSlL11T, HSlR11T, HOw⟩
  iapply (s_send V K c true 1 1 1 rfl _ (ccw_peer c (k0_dev10_eq c)) [(false, 2, 0), (true, 2, 0), (false, 2, 1), (true, 2, 1)]) $$ [HSndReadyT11 HSlL11T HOw]
  · iframe He HSndReadyT11 HSlL11T HOw
  iintro ⟨HSndSentT11, HOw⟩
  iapply (s_slabload V c 1 1 false) $$ HSlR11F
  iintro HSlR11F
  iapply (s_w8load V c) $$ HW8FVc
  iintro HW8FVc
  simp only [wp_ret]
  imodintro
  iapply Hk
  iframe HSndSentF11 HRcvDoneT01 HSlR11T HSndSentT11 HOw HSlR11F HW8FVc

theorem part16 (v289 : BitVec 32) {Q : (Σ' (v438 : FVec F S256x2048 .f32), FVec F S256x2048 .f32) → sProp 𝕄} :
    (iprop(env (SV V) K ∗ OFly V c 2 0 1 false ∗ Ow c [(false, 2, 0), (true, 2, 0), (false, 2, 1), (true, 2, 1)] ∗ Out0 (F := F) c 1 1 false ∗ SlR V c 1 1 true ∗ W8F V c ∗ OFly V c 3 0 1 true) : sProp 𝕄)
      ⊢ iprop(((OutY V c 0 1 false ∗ OFly V c 2 1 1 false ∗ SlR V c 1 1 true ∗ W8F V c ∗ OIdle (F := F) c 3 ∗ OSem (F := F) c 3 ∗ OutY V c 0 1 true ∗ Ow c [(false, 2, 0), (true, 2, 0), (false, 2, 1), (true, 2, 1)]) -∗ Q ⟨k0_pay24 (lslab (SV V (hop true 1 c) true 1)) (W8 V c), k0_pay25 (scl V c)⟩)
        -∗ WP c (k0_part16_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c (scl V c) v289 (k0_pay22 (lslab (SV V (hop false 1 c) false 1)) (W8 V c))) Q) := by
  unfold k0_part16_skel
  iintro ⟨#He, HOFly201F, HOw, HOut011F, HSlR11T, HW8FVc, HOFly301T⟩ Hk
  simp only [semSignalWord, semWaitWord, smemLoad, smemLoadElt, Prog.lift, Prog.bind_op, Prog.bind_ret, Prog.pure_eq_ret]
  iapply (s_owait V K c 2 0 1 false [(false, 2, 0), (true, 2, 0), (false, 2, 1), (true, 2, 1)]) $$ [HOFly201F HOw]
  · iframe He HOFly201F HOw
  iintro ⟨HOIdle2, HOSem2, HOutY01F, HOw⟩
  iapply (s_osdead c 2) $$ HOIdle2
  iintro %_ HOIdle2
  iapply (s_ostore V c 2 1 1 false rfl) $$ HOIdle2
  iintro HOSto211F
  iapply (s_ocopy V c 2 1 1 false) $$ [HOSto211F HOSem2 HOut011F]
  · iframe HOSto211F HOSem2 HOut011F
  iintro HOFly211F
  iapply (s_slabload V c 1 1 true) $$ HSlR11T
  iintro HSlR11T
  iapply (s_w8load V c) $$ HW8FVc
  iintro HW8FVc
  iapply (s_owait V K c 3 0 1 true [(false, 2, 0), (true, 2, 0), (false, 2, 1), (true, 2, 1)]) $$ [HOFly301T HOw]
  · iframe He HOFly301T HOw
  iintro ⟨HOIdle3, HOSem3, HOutY01T, HOw⟩
  simp only [wp_ret]
  imodintro
  iapply Hk
  iframe HOutY01F HOFly211F HSlR11T HW8FVc HOIdle3 HOSem3 HOutY01T HOw

end Parts

end Cert.GemmProof
-- ==== Proof.Parts5.lean ====
/-
The kernel's parts 17 to 20: each takes what it touches and leaves what it has made of it.
-/
module

public import proofs.«01_k».proof.Proof.Xfers

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (V : Vals F) (K : Dev nD × CK → ℕ) (c : Dev nD)

theorem part17 (v2 : BitVec 32) (v6 : BitVec 32) {Q : (Σ' (v457 : BitVec 32) (v460 : BitVec 32), BitVec 32) → sProp 𝕄} :
    (iprop(env (SV V) K ∗ OIdle (F := F) c 3 ∗ OSem (F := F) c 3 ∗ Out0 (F := F) c 1 1 true ∗ RcvReady (F := F) c (false, 1, 0) ∗ Ow c [(false, 2, 0), (true, 2, 0), (false, 2, 1), (true, 2, 1)]) : sProp 𝕄)
      ⊢ iprop(((OFly V c 3 1 1 true ∗ RcvDone (F := F) c (false, 1, 0) ∗ SlL V c 2 0 false ∗ SlR V c 2 0 false ∗ Ow c [(false, 2, 0), (true, 2, 0), (false, 2, 1), (true, 2, 1)]) -∗ Q ⟨(Scalar.remsi (Scalar.addi v2 2#32) 4#32), (Scalar.remsi (Scalar.addi (Scalar.addi v2 1#32) 1#32) 4#32), (Scalar.muli v6 1#32)⟩)
        -∗ WP c (k0_part17_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v2 v6 (k0_pay24 (lslab (SV V (hop true 1 c) true 1)) (W8 V c)) (k0_pay25 (scl V c))) Q) := by
  unfold k0_part17_skel
  iintro ⟨#He, HOIdle3, HOSem3, HOut011T, HRcvReadyF10, HOw⟩ Hk
  simp only [semSignalWord, semWaitWord, smemLoad, smemLoadElt, Prog.lift, Prog.bind_op, Prog.bind_ret, Prog.pure_eq_ret]
  iapply (s_osdead c 3) $$ HOIdle3
  iintro %_ HOIdle3
  iapply (s_ostore V c 3 1 1 true rfl) $$ HOIdle3
  iintro HOSto311T
  iapply (s_ocopy V c 3 1 1 true) $$ [HOSto311T HOSem3 HOut011T]
  · iframe HOSto311T HOSem3 HOut011T
  iintro HOFly311T
  iapply (s_recv V K c false 1 0 2 rfl [(false, 2, 0), (true, 2, 0), (false, 2, 1), (true, 2, 1)] (by decide)) $$ [HRcvReadyF10 HOw]
  · iframe He HRcvReadyF10 HOw
  iintro ⟨HRcvDoneF10, HSlL20F, HSlR20F, HOw⟩
  simp only [wp_ret]
  imodintro
  iapply Hk
  iframe HOFly311T HRcvDoneF10 HSlL20F HSlR20F HOw

theorem part18 (v4 : BitVec 32) (v469 : BitVec 32) {Q : (PUnit) → sProp 𝕄} :
    (iprop(env (SV V) K ∗ SndReady (F := F) c (false, 2, 0) ∗ SlL V c 2 0 false ∗ Ow c [(false, 2, 0), (true, 2, 0), (false, 2, 1), (true, 2, 1)] ∗ RcvReady (F := F) c (true, 1, 0) ∗ SndReady (F := F) c (true, 2, 0)) : sProp 𝕄)
      ⊢ iprop(((SndSent (F := F) c (false, 2, 0) ∗ RcvDone (F := F) c (true, 1, 0) ∗ SlR V c 2 0 true ∗ SndSent (F := F) c (true, 2, 0) ∗ Ow c [(false, 2, 1), (true, 2, 1)]) -∗ Q ⟨⟩)
        -∗ WP c (k0_part18_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v4 v469) Q) := by
  unfold k0_part18_skel
  iintro ⟨#He, HSndReadyF20, HSlL20F, HOw, HRcvReadyT10, HSndReadyT20⟩ Hk
  simp only [semSignalWord, semWaitWord, smemLoad, smemLoadElt, Prog.lift, Prog.bind_op, Prog.bind_ret, Prog.pure_eq_ret]
  iapply (s_send V K c false 2 0 2 rfl _ (cw_peer c (k0_dev11_eq c)) [(true, 2, 0), (false, 2, 1), (true, 2, 1)]) $$ [HSndReadyF20 HSlL20F HOw]
  · iframe He HSndReadyF20 HSlL20F HOw
  iintro ⟨HSndSentF20, HOw⟩
  iapply (s_recv V K c true 1 0 2 rfl [(true, 2, 0), (false, 2, 1), (true, 2, 1)] (by decide)) $$ [HRcvReadyT10 HOw]
  · iframe He HRcvReadyT10 HOw
  iintro ⟨HRcvDoneT10, HSlL20T, HSlR20T, HOw⟩
  iapply (s_send V K c true 2 0 2 rfl _ (ccw_peer c (k0_dev12_eq c)) [(false, 2, 1), (true, 2, 1)]) $$ [HSndReadyT20 HSlL20T HOw]
  · iframe He HSndReadyT20 HSlL20T HOw
  iintro ⟨HSndSentT20, HOw⟩
  simp only [wp_ret]
  imodintro
  iapply Hk
  iframe HSndSentF20 HRcvDoneT10 HSlR20T HSndSentT20 HOw

theorem part19 (v457 : BitVec 32) (v460 : BitVec 32) {Q : (Σ' (v521 : FVec F S256x4096 .fp8e4m3), Vec F S4096x2048 .fp8e4m3) → sProp 𝕄} :
    (iprop(env (SV V) K ∗ SlR V c 2 0 false ∗ W8F V c ∗ OFly V c 0 1 0 false ∗ Ow c [(false, 2, 1), (true, 2, 1)] ∗ Out0 (F := F) c 2 0 false ∗ SlR V c 2 0 true) : sProp 𝕄)
      ⊢ iprop(((SlR V c 2 0 false ∗ OutY V c 1 0 false ∗ Ow c [(false, 2, 1), (true, 2, 1)] ∗ OFly V c 0 2 0 false ∗ SlR V c 2 0 true ∗ W8F V c) -∗ Q ⟨k0_pay28 (lslab (SV V (hop true 2 c) true 0)), (W8 V c)⟩)
        -∗ WP c (k0_part19_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c (scl V c) v457 v460) Q) := by
  unfold k0_part19_skel
  iintro ⟨#He, HSlR20F, HW8FVc, HOFly010F, HOw, HOut020F, HSlR20T⟩ Hk
  simp only [semSignalWord, semWaitWord, smemLoad, smemLoadElt, Prog.lift, Prog.bind_op, Prog.bind_ret, Prog.pure_eq_ret]
  iapply (s_slabload V c 2 0 false) $$ HSlR20F
  iintro HSlR20F
  iapply (s_w8load V c) $$ HW8FVc
  iintro HW8FVc
  iapply (s_owait V K c 0 1 0 false [(false, 2, 1), (true, 2, 1)]) $$ [HOFly010F HOw]
  · iframe He HOFly010F HOw
  iintro ⟨HOIdle0, HOSem0, HOutY10F, HOw⟩
  iapply (s_osdead c 0) $$ HOIdle0
  iintro %_ HOIdle0
  iapply (s_ostore V c 0 2 0 false rfl) $$ HOIdle0
  iintro HOSto020F
  iapply (s_ocopy V c 0 2 0 false) $$ [HOSto020F HOSem0 HOut020F]
  · iframe HOSto020F HOSem0 HOut020F
  iintro HOFly020F
  iapply (s_slabload V c 2 0 true) $$ HSlR20T
  iintro HSlR20T
  iapply (s_w8load V c) $$ HW8FVc
  iintro HW8FVc
  simp only [wp_ret]
  imodintro
  iapply Hk
  iframe HSlR20F HOutY10F HOw HOFly020F HSlR20T HW8FVc

theorem part20 (v6 : BitVec 32) {Q : (PUnit) → sProp 𝕄} :
    (iprop(env (SV V) K ∗ OFly V c 1 1 0 true ∗ Ow c [(false, 2, 1), (true, 2, 1)] ∗ Out0 (F := F) c 2 0 true ∗ RcvReady (F := F) c (false, 1, 1)) : sProp 𝕄)
      ⊢ iprop(((OutY V c 1 0 true ∗ OFly V c 1 2 0 true ∗ RcvDone (F := F) c (false, 1, 1) ∗ SlL V c 2 1 false ∗ SlR V c 2 1 false ∗ Ow c [(false, 2, 1), (true, 2, 1)]) -∗ Q ⟨⟩)
        -∗ WP c (k0_part20_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v6 (scl V c) (k0_pay28 (lslab (SV V (hop true 2 c) true 0))) (W8 V c)) Q) := by
  unfold k0_part20_skel
  iintro ⟨#He, HOFly110T, HOw, HOut020T, HRcvReadyF11⟩ Hk
  simp only [semSignalWord, semWaitWord, smemLoad, smemLoadElt, Prog.lift, Prog.bind_op, Prog.bind_ret, Prog.pure_eq_ret]
  iapply (s_owait V K c 1 1 0 true [(false, 2, 1), (true, 2, 1)]) $$ [HOFly110T HOw]
  · iframe He HOFly110T HOw
  iintro ⟨HOIdle1, HOSem1, HOutY10T, HOw⟩
  iapply (s_osdead c 1) $$ HOIdle1
  iintro %_ HOIdle1
  iapply (s_ostore V c 1 2 0 true rfl) $$ HOIdle1
  iintro HOSto120T
  iapply (s_ocopy V c 1 2 0 true) $$ [HOSto120T HOSem1 HOut020T]
  · iframe HOSto120T HOSem1 HOut020T
  iintro HOFly120T
  iapply (s_recv V K c false 1 1 2 rfl [(false, 2, 1), (true, 2, 1)] (by decide)) $$ [HRcvReadyF11 HOw]
  · iframe He HRcvReadyF11 HOw
  iintro ⟨HRcvDoneF11, HSlL21F, HSlR21F, HOw⟩
  simp only [wp_ret]
  imodintro
  iapply Hk
  iframe HOutY10T HOFly120T HRcvDoneF11 HSlL21F HSlR21F HOw

end Parts

end Cert.GemmProof
-- ==== Proof.Parts6.lean ====
/-
The kernel's parts 21 to 23: each takes what it touches and leaves what it has made of it.
-/
module

public import proofs.«01_k».proof.Proof.Xfers

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (V : Vals F) (K : Dev nD × CK → ℕ) (c : Dev nD)

theorem part21 (v4 : BitVec 32) (v6 : BitVec 32) {Q : (PUnit) → sProp 𝕄} :
    (iprop(env (SV V) K ∗ SndReady (F := F) c (false, 2, 1) ∗ SlL V c 2 1 false ∗ Ow c [(false, 2, 1), (true, 2, 1)] ∗ RcvReady (F := F) c (true, 1, 1)) : sProp 𝕄)
      ⊢ iprop(((SndSent (F := F) c (false, 2, 1) ∗ RcvDone (F := F) c (true, 1, 1) ∗ SlL V c 2 1 true ∗ SlR V c 2 1 true ∗ Ow c [(true, 2, 1)]) -∗ Q ⟨⟩)
        -∗ WP c (k0_part21_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v4 v6) Q) := by
  unfold k0_part21_skel
  iintro ⟨#He, HSndReadyF21, HSlL21F, HOw, HRcvReadyT11⟩ Hk
  simp only [semSignalWord, semWaitWord, smemLoad, smemLoadElt, Prog.lift, Prog.bind_op, Prog.bind_ret, Prog.pure_eq_ret]
  iapply (s_send V K c false 2 1 2 rfl _ (cw_peer c (k0_dev13_eq c)) [(true, 2, 1)]) $$ [HSndReadyF21 HSlL21F HOw]
  · iframe He HSndReadyF21 HSlL21F HOw
  iintro ⟨HSndSentF21, HOw⟩
  iapply (s_recv V K c true 1 1 2 rfl [(true, 2, 1)] (by decide)) $$ [HRcvReadyT11 HOw]
  · iframe He HRcvReadyT11 HOw
  iintro ⟨HRcvDoneT11, HSlL21T, HSlR21T, HOw⟩
  simp only [wp_ret]
  imodintro
  iapply Hk
  iframe HSndSentF21 HRcvDoneT11 HSlL21T HSlR21T HOw

theorem part22 (v457 : BitVec 32) (v460 : BitVec 32) {Q : (Σ' (v604 : FVec F S256x4096 .fp8e4m3) (v606 : BitVec 32), BitVec 32) → sProp 𝕄} :
    (iprop(env (SV V) K ∗ SndReady (F := F) c (true, 2, 1) ∗ SlL V c 2 1 true ∗ Ow c [(true, 2, 1)] ∗ SlR V c 2 1 false ∗ W8F V c ∗ OFly V c 2 1 1 false ∗ Out0 (F := F) c 2 1 false ∗ SlR V c 2 1 true) : sProp 𝕄)
      ⊢ iprop(((SndSent (F := F) c (true, 2, 1) ∗ SlR V c 2 1 false ∗ W8F V c ∗ OutY V c 1 1 false ∗ Ow c [] ∗ OFly V c 2 2 1 false ∗ SlR V c 2 1 true) -∗ Q ⟨k0_pay31 (lslab (SV V (hop true 2 c) true 1)), (Scalar.addi (Scalar.muli v460 1024#32) 512#32), 256#32⟩)
        -∗ WP c (k0_part22_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c (scl V c) v457 v460) Q) := by
  unfold k0_part22_skel
  iintro ⟨#He, HSndReadyT21, HSlL21T, HOw, HSlR21F, HW8FVc, HOFly211F, HOut021F, HSlR21T⟩ Hk
  simp only [semSignalWord, semWaitWord, smemLoad, smemLoadElt, Prog.lift, Prog.bind_op, Prog.bind_ret, Prog.pure_eq_ret]
  iapply (s_send V K c true 2 1 2 rfl _ (ccw_peer c (k0_dev14_eq c)) []) $$ [HSndReadyT21 HSlL21T HOw]
  · iframe He HSndReadyT21 HSlL21T HOw
  iintro ⟨HSndSentT21, HOw⟩
  iapply (s_slabload V c 2 1 false) $$ HSlR21F
  iintro HSlR21F
  iapply (s_w8load V c) $$ HW8FVc
  iintro HW8FVc
  iapply (s_owait V K c 2 1 1 false []) $$ [HOFly211F HOw]
  · iframe He HOFly211F HOw
  iintro ⟨HOIdle2, HOSem2, HOutY11F, HOw⟩
  iapply (s_osdead c 2) $$ HOIdle2
  iintro %_ HOIdle2
  iapply (s_ostore V c 2 2 1 false rfl) $$ HOIdle2
  iintro HOSto221F
  iapply (s_ocopy V c 2 2 1 false) $$ [HOSto221F HOSem2 HOut021F]
  · iframe HOSto221F HOSem2 HOut021F
  iintro HOFly221F
  iapply (s_slabload V c 2 1 true) $$ HSlR21T
  iintro HSlR21T
  simp only [wp_ret]
  imodintro
  iapply Hk
  iframe HSndSentT21 HSlR21F HW8FVc HOutY11F HOw HOFly221F HSlR21T

theorem part23 (v2 : BitVec 32) (v6 : BitVec 32) (v606 : BitVec 32) (c256_i32_606 : BitVec 32) {Q : (Σ' (v628 : BitVec 32), BitVec 32) → sProp 𝕄} :
    (iprop(env (SV V) K ∗ W8F V c ∗ OFly V c 3 1 1 true ∗ Ow c [] ∗ Out0 (F := F) c 2 1 true) : sProp 𝕄)
      ⊢ iprop(((W8F V c ∗ OutY V c 1 1 true ∗ Ow c [] ∗ OFly V c 3 2 1 true) -∗ Q ⟨(Scalar.remsi (Scalar.addi v2 1#32) 4#32), (Scalar.remsi (Scalar.addi (Scalar.addi v2 2#32) 1#32) 4#32)⟩)
        -∗ WP c (k0_part23_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v2 v6 (scl V c) (k0_pay31 (lslab (SV V (hop true 2 c) true 1))) v606 c256_i32_606) Q) := by
  unfold k0_part23_skel
  iintro ⟨#He, HW8FVc, HOFly311T, HOw, HOut021T⟩ Hk
  simp only [semSignalWord, semWaitWord, smemLoad, smemLoadElt, Prog.lift, Prog.bind_op, Prog.bind_ret, Prog.pure_eq_ret]
  iapply (s_w8load V c) $$ HW8FVc
  iintro HW8FVc
  iapply (s_owait V K c 3 1 1 true []) $$ [HOFly311T HOw]
  · iframe He HOFly311T HOw
  iintro ⟨HOIdle3, HOSem3, HOutY11T, HOw⟩
  iapply (s_osdead c 3) $$ HOIdle3
  iintro %_ HOIdle3
  iapply (s_ostore V c 3 2 1 true rfl) $$ HOIdle3
  iintro HOSto321T
  iapply (s_ocopy V c 3 2 1 true) $$ [HOSto321T HOSem3 HOut021T]
  · iframe HOSto321T HOSem3 HOut021T
  iintro HOFly321T
  simp only [wp_ret]
  imodintro
  iapply Hk
  iframe HW8FVc HOutY11T HOw HOFly321T

end Parts

end Cert.GemmProof
-- ==== Proof.Parts7.lean ====
/-
The kernel's parts 24 to 26: each takes what it touches and leaves what it has made of it.
-/
module

public import proofs.«01_k».proof.Proof.Xfers

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (V : Vals F) (K : Dev nD × CK → ℕ) (c : Dev nD)

theorem part24 (v4 : BitVec 32) (v628 : BitVec 32) {Q : (FVec F S256x2048 .f32) → sProp 𝕄} :
    (iprop(env (SV V) K ∗ RcvReady (F := F) c (false, 2, 0) ∗ Ow c [] ∗ RcvReady (F := F) c (true, 2, 0) ∗ W8F V c ∗ OFly V c 0 2 0 false) : sProp 𝕄)
      ⊢ iprop(((RcvDone (F := F) c (false, 2, 0) ∗ SlL V c 3 0 false ∗ RcvDone (F := F) c (true, 2, 0) ∗ SlL V c 3 0 true ∗ SlR V c 3 0 true ∗ SlR V c 3 0 false ∗ W8F V c ∗ OIdle (F := F) c 0 ∗ OSem (F := F) c 0 ∗ OutY V c 2 0 false ∗ Ow c []) -∗ Q (k0_pay33 (scl V c) (lslab (SV V (hop false 3 c) false 0)) (W8 V c)))
        -∗ WP c (k0_part24_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v4 (scl V c) v628) Q) := by
  unfold k0_part24_skel
  iintro ⟨#He, HRcvReadyF20, HOw, HRcvReadyT20, HW8FVc, HOFly020F⟩ Hk
  simp only [semSignalWord, semWaitWord, smemLoad, smemLoadElt, Prog.lift, Prog.bind_op, Prog.bind_ret, Prog.pure_eq_ret]
  iapply (s_recv V K c false 2 0 3 rfl [] (by decide)) $$ [HRcvReadyF20 HOw]
  · iframe He HRcvReadyF20 HOw
  iintro ⟨HRcvDoneF20, HSlL30F, HSlR30F, HOw⟩
  iapply (s_recv V K c true 2 0 3 rfl [] (by decide)) $$ [HRcvReadyT20 HOw]
  · iframe He HRcvReadyT20 HOw
  iintro ⟨HRcvDoneT20, HSlL30T, HSlR30T, HOw⟩
  iapply (s_slabload V c 3 0 false) $$ HSlR30F
  iintro HSlR30F
  iapply (s_w8load V c) $$ HW8FVc
  iintro HW8FVc
  iapply (s_owait V K c 0 2 0 false []) $$ [HOFly020F HOw]
  · iframe He HOFly020F HOw
  iintro ⟨HOIdle0, HOSem0, HOutY20F, HOw⟩
  simp only [wp_ret]
  imodintro
  iapply Hk
  iframe HRcvDoneF20 HSlL30F HRcvDoneT20 HSlL30T HSlR30T HSlR30F HW8FVc HOIdle0 HOSem0 HOutY20F HOw

theorem part25 (v631 : BitVec 32) {Q : (PUnit) → sProp 𝕄} :
    (iprop(env (SV V) K ∗ OIdle (F := F) c 0 ∗ OSem (F := F) c 0 ∗ Out0 (F := F) c 3 0 false ∗ SlR V c 3 0 true ∗ W8F V c ∗ OFly V c 1 2 0 true ∗ Ow c []) : sProp 𝕄)
      ⊢ iprop(((OFly V c 0 3 0 false ∗ SlR V c 3 0 true ∗ W8F V c ∗ OSem (F := F) c 1 ∗ OutY V c 2 0 true ∗ Ow c [] ∗ OSto V c 1 3 0 true) -∗ Q ⟨⟩)
        -∗ WP c (k0_part25_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c (scl V c) v631 (k0_pay33 (scl V c) (lslab (SV V (hop false 3 c) false 0)) (W8 V c))) Q) := by
  unfold k0_part25_skel
  iintro ⟨#He, HOIdle0, HOSem0, HOut030F, HSlR30T, HW8FVc, HOFly120T, HOw⟩ Hk
  simp only [semSignalWord, semWaitWord, smemLoad, smemLoadElt, Prog.lift, Prog.bind_op, Prog.bind_ret, Prog.pure_eq_ret]
  iapply (s_osdead c 0) $$ HOIdle0
  iintro %_ HOIdle0
  iapply (s_ostore V c 0 3 0 false rfl) $$ HOIdle0
  iintro HOSto030F
  iapply (s_ocopy V c 0 3 0 false) $$ [HOSto030F HOSem0 HOut030F]
  · iframe HOSto030F HOSem0 HOut030F
  iintro HOFly030F
  iapply (s_slabload V c 3 0 true) $$ HSlR30T
  iintro HSlR30T
  iapply (s_w8load V c) $$ HW8FVc
  iintro HW8FVc
  iapply (s_owait V K c 1 2 0 true []) $$ [HOFly120T HOw]
  · iframe He HOFly120T HOw
  iintro ⟨HOIdle1, HOSem1, HOutY20T, HOw⟩
  iapply (s_osdead c 1) $$ HOIdle1
  iintro %_ HOIdle1
  iapply (s_ostore V c 1 3 0 true rfl) $$ HOIdle1
  iintro HOSto130T
  simp only [wp_ret]
  imodintro
  iapply Hk
  iframe HOFly030F HSlR30T HW8FVc HOSem1 HOutY20T HOw HOSto130T

theorem part26 (v4 : BitVec 32) (v6 : BitVec 32) (v628 : BitVec 32) {Q : (FVec F S256x4096 .fp8e4m3) → sProp 𝕄} :
    (iprop(env (SV V) K ∗ OSto V c 1 3 0 true ∗ OSem (F := F) c 1 ∗ Out0 (F := F) c 3 0 true ∗ RcvReady (F := F) c (false, 2, 1) ∗ Ow c [] ∗ RcvReady (F := F) c (true, 2, 1)) : sProp 𝕄)
      ⊢ iprop(((OFly V c 1 3 0 true ∗ RcvDone (F := F) c (false, 2, 1) ∗ SlL V c 3 1 false ∗ RcvDone (F := F) c (true, 2, 1) ∗ SlL V c 3 1 true ∗ SlR V c 3 1 true ∗ Ow c [] ∗ SlR V c 3 1 false) -∗ Q (k0_pay36 (lslab (SV V (hop false 3 c) false 1))))
        -∗ WP c (k0_part26_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c v4 v6 v628) Q) := by
  unfold k0_part26_skel
  iintro ⟨#He, HOSto130T, HOSem1, HOut030T, HRcvReadyF21, HOw, HRcvReadyT21⟩ Hk
  simp only [semSignalWord, semWaitWord, smemLoad, smemLoadElt, Prog.lift, Prog.bind_op, Prog.bind_ret, Prog.pure_eq_ret]
  iapply (s_ocopy V c 1 3 0 true) $$ [HOSto130T HOSem1 HOut030T]
  · iframe HOSto130T HOSem1 HOut030T
  iintro HOFly130T
  iapply (s_recv V K c false 2 1 3 rfl [] (by decide)) $$ [HRcvReadyF21 HOw]
  · iframe He HRcvReadyF21 HOw
  iintro ⟨HRcvDoneF21, HSlL31F, HSlR31F, HOw⟩
  iapply (s_recv V K c true 2 1 3 rfl [] (by decide)) $$ [HRcvReadyT21 HOw]
  · iframe He HRcvReadyT21 HOw
  iintro ⟨HRcvDoneT21, HSlL31T, HSlR31T, HOw⟩
  iapply (s_slabload V c 3 1 false) $$ HSlR31F
  iintro HSlR31F
  simp only [wp_ret]
  imodintro
  iapply Hk
  iframe HOFly130T HRcvDoneF21 HSlL31F HRcvDoneT21 HSlL31T HSlR31T HOw HSlR31F

end Parts

end Cert.GemmProof
-- ==== Proof.Parts8.lean ====
/-
The kernel's parts 27 to 28: each takes what it touches and leaves what it has made of it.
-/
module

public import proofs.«01_k».proof.Proof.Xfers

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (V : Vals F) (K : Dev nD × CK → ℕ) (c : Dev nD)

theorem part27 (v631 : BitVec 32) {Q : (FVec F S256x2048 .f32) → sProp 𝕄} :
    (iprop(env (SV V) K ∗ W8F V c ∗ OFly V c 2 2 1 false ∗ Ow c [] ∗ Out0 (F := F) c 3 1 false ∗ SlR V c 3 1 true) : sProp 𝕄)
      ⊢ iprop(((OutY V c 2 1 false ∗ Ow c [] ∗ OFly V c 2 3 1 false ∗ SlR V c 3 1 true ∗ W8F V c) -∗ Q (k0_pay38 (lslab (SV V (hop true 3 c) true 1)) (W8 V c)))
        -∗ WP c (k0_part27_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c (scl V c) v631 (k0_pay36 (lslab (SV V (hop false 3 c) false 1)))) Q) := by
  unfold k0_part27_skel
  iintro ⟨#He, HW8FVc, HOFly221F, HOw, HOut031F, HSlR31T⟩ Hk
  simp only [semSignalWord, semWaitWord, smemLoad, smemLoadElt, Prog.lift, Prog.bind_op, Prog.bind_ret, Prog.pure_eq_ret]
  iapply (s_w8load V c) $$ HW8FVc
  iintro HW8FVc
  iapply (s_owait V K c 2 2 1 false []) $$ [HOFly221F HOw]
  · iframe He HOFly221F HOw
  iintro ⟨HOIdle2, HOSem2, HOutY21F, HOw⟩
  iapply (s_osdead c 2) $$ HOIdle2
  iintro %_ HOIdle2
  iapply (s_ostore V c 2 3 1 false rfl) $$ HOIdle2
  iintro HOSto231F
  iapply (s_ocopy V c 2 3 1 false) $$ [HOSto231F HOSem2 HOut031F]
  · iframe HOSto231F HOSem2 HOut031F
  iintro HOFly231F
  iapply (s_slabload V c 3 1 true) $$ HSlR31T
  iintro HSlR31T
  iapply (s_w8load V c) $$ HW8FVc
  iintro HW8FVc
  simp only [wp_ret]
  imodintro
  iapply Hk
  iframe HOutY21F HOw HOFly231F HSlR31T HW8FVc

theorem part28  {Q : (PUnit) → sProp 𝕄} :
    (iprop(env (SV V) K ∗ OFly V c 3 2 1 true ∗ Ow c [] ∗ Out0 (F := F) c 3 1 true ∗ OFly V c 0 3 0 false ∗ OFly V c 1 3 0 true ∗ OFly V c 2 3 1 false) : sProp 𝕄)
      ⊢ iprop(((OutY V c 2 1 true ∗ OFly V c 3 3 1 true ∗ OIdle (F := F) c 0 ∗ OSem (F := F) c 0 ∗ OutY V c 3 0 false ∗ OIdle (F := F) c 1 ∗ OSem (F := F) c 1 ∗ OutY V c 3 0 true ∗ OIdle (F := F) c 2 ∗ OSem (F := F) c 2 ∗ OutY V c 3 1 false ∗ Ow c []) -∗ Q ⟨⟩)
        -∗ WP c (k0_part28_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c (scl V c) (k0_pay38 (lslab (SV V (hop true 3 c) true 1)) (W8 V c))) Q) := by
  unfold k0_part28_skel
  iintro ⟨#He, HOFly321T, HOw, HOut031T, HOFly030F, HOFly130T, HOFly231F⟩ Hk
  simp only [semSignalWord, semWaitWord, smemLoad, smemLoadElt, Prog.lift, Prog.bind_op, Prog.bind_ret, Prog.pure_eq_ret]
  iapply (s_owait V K c 3 2 1 true []) $$ [HOFly321T HOw]
  · iframe He HOFly321T HOw
  iintro ⟨HOIdle3, HOSem3, HOutY21T, HOw⟩
  iapply (s_osdead c 3) $$ HOIdle3
  iintro %_ HOIdle3
  iapply (s_ostore V c 3 3 1 true rfl) $$ HOIdle3
  iintro HOSto331T
  iapply (s_ocopy V c 3 3 1 true) $$ [HOSto331T HOSem3 HOut031T]
  · iframe HOSto331T HOSem3 HOut031T
  iintro HOFly331T
  iapply (s_owait V K c 0 3 0 false []) $$ [HOFly030F HOw]
  · iframe He HOFly030F HOw
  iintro ⟨HOIdle0, HOSem0, HOutY30F, HOw⟩
  iapply (s_owait V K c 1 3 0 true []) $$ [HOFly130T HOw]
  · iframe He HOFly130T HOw
  iintro ⟨HOIdle1, HOSem1, HOutY30T, HOw⟩
  iapply (s_owait V K c 2 3 1 false []) $$ [HOFly231F HOw]
  · iframe He HOFly231F HOw
  iintro ⟨HOIdle2, HOSem2, HOutY31F, HOw⟩
  simp only [wp_ret]
  imodintro
  iapply Hk
  iframe HOutY21T HOFly331T HOIdle0 HOSem0 HOutY30F HOIdle1 HOSem1 HOutY30T HOIdle2 HOSem2 HOutY31F HOw

end Parts

end Cert.GemmProof
-- ==== Proof.Parts9.lean ====
/-
The kernel's parts 29 to 31: each takes what it touches and leaves what it has made of it.
-/
module

public import proofs.«01_k».proof.Proof.Xfers

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts

variable (V : Vals F) (K : Dev nD × CK → ℕ) (c : Dev nD)

theorem part29  {Q : (PUnit) → sProp 𝕄} :
    (iprop(env (SV V) K ∗ OFly V c 3 3 1 true ∗ Ow c [] ∗ SndSent (F := F) c (false, 0, 0) ∗ SndSent (F := F) c (true, 0, 0)) : sProp 𝕄)
      ⊢ iprop(((OIdle (F := F) c 3 ∗ OSem (F := F) c 3 ∗ OutY V c 3 1 true ∗ SndDone (F := F) c (false, 0, 0) ∗ SlL V c 0 0 false ∗ SndDone (F := F) c (true, 0, 0) ∗ SlL V c 0 0 true ∗ Ow c []) -∗ Q ⟨⟩)
        -∗ WP c (k0_part29_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 c) Q) := by
  unfold k0_part29_skel
  iintro ⟨#He, HOFly331T, HOw, HSndSentF00, HSndSentT00⟩ Hk
  simp only [semSignalWord, semWaitWord, smemLoad, smemLoadElt, Prog.lift, Prog.bind_op, Prog.bind_ret, Prog.pure_eq_ret]
  iapply (s_owait V K c 3 3 1 true []) $$ [HOFly331T HOw]
  · iframe He HOFly331T HOw
  iintro ⟨HOIdle3, HOSem3, HOutY31T, HOw⟩
  iapply (s_sent V K c false 0 0 0 rfl) $$ [HSndSentF00 HOw]
  · iframe He HSndSentF00 HOw
  iintro ⟨HSndDoneF00, HSlL00F, HOw⟩
  iapply (s_sent V K c true 0 0 0 rfl) $$ [HSndSentT00 HOw]
  · iframe He HSndSentT00 HOw
  iintro ⟨HSndDoneT00, HSlL00T, HOw⟩
  simp only [wp_ret]
  imodintro
  iapply Hk
  iframe HOIdle3 HOSem3 HOutY31T HSndDoneF00 HSlL00F HSndDoneT00 HSlL00T HOw

theorem part30  {Q : (PUnit) → sProp 𝕄} :
    (iprop(env (SV V) K ∗ SndSent (F := F) c (false, 0, 1) ∗ Ow c [] ∗ SndSent (F := F) c (true, 0, 1) ∗ SndSent (F := F) c (false, 1, 0) ∗ SndSent (F := F) c (true, 1, 0)) : sProp 𝕄)
      ⊢ iprop(((SndDone (F := F) c (false, 0, 1) ∗ SlL V c 0 1 false ∗ SndDone (F := F) c (true, 0, 1) ∗ SlL V c 0 1 true ∗ SndDone (F := F) c (false, 1, 0) ∗ SlL V c 1 0 false ∗ SndDone (F := F) c (true, 1, 0) ∗ SlL V c 1 0 true ∗ Ow c []) -∗ Q ⟨⟩)
        -∗ WP c (k0_part30_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 ) Q) := by
  unfold k0_part30_skel
  iintro ⟨#He, HSndSentF01, HOw, HSndSentT01, HSndSentF10, HSndSentT10⟩ Hk
  simp only [semSignalWord, semWaitWord, smemLoad, smemLoadElt, Prog.lift, Prog.bind_op, Prog.bind_ret, Prog.pure_eq_ret]
  iapply (s_sent V K c false 0 1 0 rfl) $$ [HSndSentF01 HOw]
  · iframe He HSndSentF01 HOw
  iintro ⟨HSndDoneF01, HSlL01F, HOw⟩
  iapply (s_sent V K c true 0 1 0 rfl) $$ [HSndSentT01 HOw]
  · iframe He HSndSentT01 HOw
  iintro ⟨HSndDoneT01, HSlL01T, HOw⟩
  iapply (s_sent V K c false 1 0 1 rfl) $$ [HSndSentF10 HOw]
  · iframe He HSndSentF10 HOw
  iintro ⟨HSndDoneF10, HSlL10F, HOw⟩
  iapply (s_sent V K c true 1 0 1 rfl) $$ [HSndSentT10 HOw]
  · iframe He HSndSentT10 HOw
  iintro ⟨HSndDoneT10, HSlL10T, HOw⟩
  simp only [wp_ret]
  imodintro
  iapply Hk
  iframe HSndDoneF01 HSlL01F HSndDoneT01 HSlL01T HSndDoneF10 HSlL10F HSndDoneT10 HSlL10T HOw

theorem part31  {Q : (PUnit) → sProp 𝕄} :
    (iprop(env (SV V) K ∗ SndSent (F := F) c (false, 1, 1) ∗ Ow c [] ∗ SndSent (F := F) c (true, 1, 1) ∗ SndSent (F := F) c (false, 2, 0)) : sProp 𝕄)
      ⊢ iprop(((SndDone (F := F) c (false, 1, 1) ∗ SlL V c 1 1 false ∗ SndDone (F := F) c (true, 1, 1) ∗ SlL V c 1 1 true ∗ SndDone (F := F) c (false, 2, 0) ∗ SlL V c 2 0 false ∗ Ow c []) -∗ Q ⟨⟩)
        -∗ WP c (k0_part31_skel xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10 ) Q) := by
  unfold k0_part31_skel
  iintro ⟨#He, HSndSentF11, HOw, HSndSentT11, HSndSentF20⟩ Hk
  simp only [semSignalWord, semWaitWord, smemLoad, smemLoadElt, Prog.lift, Prog.bind_op, Prog.bind_ret, Prog.pure_eq_ret]
  iapply (s_sent V K c false 1 1 1 rfl) $$ [HSndSentF11 HOw]
  · iframe He HSndSentF11 HOw
  iintro ⟨HSndDoneF11, HSlL11F, HOw⟩
  iapply (s_sent V K c true 1 1 1 rfl) $$ [HSndSentT11 HOw]
  · iframe He HSndSentT11 HOw
  iintro ⟨HSndDoneT11, HSlL11T, HOw⟩
  iapply (s_sent V K c false 2 0 2 rfl) $$ [HSndSentF20 HOw]
  · iframe He HSndSentF20 HOw
  iintro ⟨HSndDoneF20, HSlL20F, HOw⟩
  simp only [wp_ret]
  imodintro
  iapply Hk
  iframe HSndDoneF11 HSlL11F HSndDoneT11 HSlL11T HSndDoneF20 HSlL20F HOw

end Parts

end Cert.GemmProof
-- ==== Proof.Body.lean ====
/-
The kernel's body on one device, from what it starts with to what it ends with.
-/
module

public import proofs.«01_k».proof.Proof.Lists
public import proofs.«01_k».proof.Proof.Parts0
public import proofs.«01_k».proof.Proof.Parts1
public import proofs.«01_k».proof.Proof.Parts2
public import proofs.«01_k».proof.Proof.Parts3
public import proofs.«01_k».proof.Proof.Parts4
public import proofs.«01_k».proof.Proof.Parts5
public import proofs.«01_k».proof.Proof.Parts6
public import proofs.«01_k».proof.Proof.Parts7
public import proofs.«01_k».proof.Proof.Parts8
public import proofs.«01_k».proof.Proof.Parts9

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable (V : Vals F) (K : Dev nD × CK → ℕ) (c : Dev nD)

/-- What device `c` starts the kernel with; -/
def Start : sProp 𝕄 :=
  iprop(Xin V c ∗ Sx V c ∗ Sw V c ∗ Buf0 (F := F) c false ∗ Buf0 (F := F) c true ∗ StM0 (F := F) c ∗ W8M0 (F := F) c ∗ OsM0 (F := F) c
    ∗ WSem (F := F) c 0 ∗ WSem (F := F) c 1 ∗ bigSep Finset.univ (fun s : Fin 4 => OSem (F := F) c s) ∗ mPts c wM fullShare (V.W c) ∗ OutM0 (F := F) c
    ∗ BarReady (F := F) c ∗ bigSep Finset.univ (fun x : Xf => SndTok (F := F) c x) ∗ bigSep Finset.univ (fun x : Xf => RcvReady (F := F) c x) ∗ Ow0 (F := F) c)
/-- and what it ends it with. -/
def Finish : sProp 𝕄 :=
  iprop(Xin V c ∗ Sx V c ∗ Sw V c ∗ (∃ g, fwM.view.loc (c : Thread nD τ) ↦{fullShare} g) ∗ (∃ g, bwM.view.loc (c : Thread nD τ) ↦{fullShare} g)
    ∗ (∃ g, stM.view.loc (c : Thread nD τ) ↦{fullShare} g) ∗ (∃ g, w8M.view.loc (c : Thread nD τ) ↦{fullShare} g) ∗ (∃ g, osM.view.loc (c : Thread nD τ) ↦{fullShare} g)
    ∗ WSem (F := F) c 0 ∗ WSem (F := F) c 1 ∗ bigSep Finset.univ (fun s : Fin 4 => OSem (F := F) c s) ∗ mPts c wM fullShare (V.W c) ∗ mPts c outM fullShare (OUT c V)
    ∗ bigSep Finset.univ (fun x : Xf => SndDone (F := F) c x) ∗ bigSep Finset.univ (fun x : Xf => RcvDone (F := F) c x) ∗ semVal (barCell c) 0 ∗ Ow c [])

theorem body {Q : PUnit → sProp 𝕄} :
    (iprop(env (SV V) K ∗ Start V c) : sProp 𝕄)
      ⊢ iprop((Finish V c -∗ Q ⟨⟩) -∗ WP c (cc0_body xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10) Q) := by
  rw [cc0_body_eq_skeleton]
  unfold cc0_body_skel
  rw [k0_part32_eq_skeleton]
  unfold k0_part32_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold Start
  iintro ⟨#He, HX, HSx, HSw, HF, HB, HSt, HW8, HOs, HWs0, HWs1, HOm, HW, HOut, HBar, HTk, HRr, HO⟩ Hk
  ihave HW := (w_split c V).1 $$ HW
  icases HW with ⟨HWb, HWr⟩
  ihave HWb := (Entails.of_eq (over_eight (fun i : Fin 8 => WBlk V c i))) $$ HWb
  icases HWb with ⟨HWBlk0, HWBlk1, HWBlk2, HWBlk3, HWBlk4, HWBlk5, HWBlk6, HWBlk7⟩
  ihave HOut := (o_start c) $$ HOut
  ihave HOut := (Entails.of_eq (over_ot (fun t : OT => Out0 (F := F) c t.1 t.2.1 t.2.2))) $$ HOut
  icases HOut with ⟨HOut000F, HOut000T, HOut001F, HOut001T, HOut010F, HOut010T, HOut011F, HOut011T, HOut020F, HOut020T, HOut021F, HOut021T, HOut030F, HOut030T, HOut031F, HOut031T⟩
  ihave HOs := (os_start c) $$ HOs
  ihave HOs := (Entails.of_eq (over_four (fun s : Fin 4 => OIdle (F := F) c s))) $$ HOs
  icases HOs with ⟨HOIdle0, HOIdle1, HOIdle2, HOIdle3⟩
  ihave HOm := (Entails.of_eq (over_four (fun s : Fin 4 => OSem (F := F) c s))) $$ HOm
  icases HOm with ⟨HOSem0, HOSem1, HOSem2, HOSem3⟩
  ihave HRr := (Entails.of_eq (over_xf (fun x : Xf => RcvReady (F := F) c x))) $$ HRr
  icases HRr with ⟨HRcvReadyF00, HRcvReadyT00, HRcvReadyF01, HRcvReadyT01, HRcvReadyF10, HRcvReadyT10, HRcvReadyF11, HRcvReadyT11, HRcvReadyF20, HRcvReadyT20, HRcvReadyF21, HRcvReadyT21⟩
  ihave HW8P0 := (w8_start V c) $$ HW8
  ihave HSt := (st_start c) $$ [HSt HWs0 HWs1]
  · iframe HSt HWs0 HWs1
  icases HSt with ⟨HStIdle0, HStIdle1⟩
  irename HSx => HSxVc
  irename HSw => HSwVc
  simp only [wp_bind]
  iapply (part1 V K c) $$ [HX HF HB HBar HO]
  · iframe He HX HF HB HBar HO
  iintro ⟨HXinVc, ⟨HSlL00F, HSlR00F⟩, ⟨HSlL01F, HSlR01F⟩, ⟨HSlL00T, HSlR00T⟩, ⟨HSlL01T, HSlR01T⟩, Hb, Hp0, Hp1, HOw⟩
  ihave HTk := (snd_ready c) $$ [HTk Hp0 Hp1]
  · iframe HTk Hp0 Hp1
  ihave HTk := (Entails.of_eq (over_xf (fun x : Xf => SndReady (F := F) c x))) $$ HTk
  icases HTk with ⟨HSndReadyF00, HSndReadyT00, HSndReadyF01, HSndReadyT01, HSndReadyF10, HSndReadyT10, HSndReadyF11, HSndReadyT11, HSndReadyF20, HSndReadyT20, HSndReadyF21, HSndReadyT21⟩
  iapply (part2 V K c _ _) $$ [HSndReadyF00 HSlL00F HOw HSndReadyT00 HSlL00T]
  · iframe He HSndReadyF00 HSlL00F HOw HSndReadyT00 HSlL00T
  iintro ⟨HSndSentF00, HSndSentT00, HOw⟩
  iapply (part3 V K c _ _) $$ [HSndReadyF01 HSlL01F HOw HSndReadyT01 HSlL01T HWBlk0 HStIdle0 HWBlk1 HStIdle1]
  · iframe He HSndReadyF01 HSlL01F HOw HSndReadyT01 HSlL01T HWBlk0 HStIdle0 HWBlk1 HStIdle1
  iintro ⟨HSndSentF01, HSndSentT01, HOw, HWFly00, HWFly11⟩
  iapply (part4 V K c _) $$ [HWFly00 HOw HW8P0 HWBlk2 HWFly11]
  · iframe He HWFly00 HOw HW8P0 HWBlk2 HWFly11
  iintro ⟨HWBlk0, HWFly02, HWBlk1, HOw, HStIdle1, HW8P2⟩
  iapply (part5 V K c _) $$ [HWBlk3 HStIdle1 HWFly02 HOw HW8P2 HWBlk4]
  · iframe He HWBlk3 HStIdle1 HWFly02 HOw HW8P2 HWBlk4
  iintro ⟨HWBlk2, HW8P3, HWFly04, HStFull13, HWBlk3, HOw⟩
  iapply (part6 V K c _) $$ [HStFull13 HW8P3 HWBlk5 HWFly04 HOw]
  · iframe He HStFull13 HW8P3 HWBlk5 HWFly04 HOw
  iintro ⟨HWFly15, HWBlk4, HOw, HStIdle0, HW8P5⟩
  iapply (part7 V K c _) $$ [HWBlk6 HStIdle0 HWFly15 HOw HW8P5 HWBlk7]
  · iframe He HWBlk6 HStIdle0 HWFly15 HOw HW8P5 HWBlk7
  iintro ⟨HWBlk5, HW8P6, HWFly17, HWBlk6, HOw, HStIdle0⟩
  iapply (part8 V K c _) $$ [HW8P6 HWFly17 HOw HSxVc HSwVc HSlR00F HOIdle0]
  · iframe He HW8P6 HWFly17 HOw HSxVc HSwVc HSlR00F HOIdle0
  iintro ⟨HWBlk7, HOw, HStIdle1, HSxVc, HSwVc, HSlR00F, HW8FVc, HOSto000F⟩
  iapply (part9 V K c _) $$ [HOSto000F HOSem0 HOut000F HSlR00T HW8FVc HOIdle1 HOSem1 HOut000T HSlR01F]
  · iframe He HOSto000F HOSem0 HOut000F HSlR00T HW8FVc HOIdle1 HOSem1 HOut000T HSlR01F
  iintro ⟨HOFly000F, HSlR00T, HW8FVc, HOFly100T, HSlR01F⟩
  iapply (part10 V K c _) $$ [HW8FVc HOIdle2 HOSem2 HOut001F HSlR01T HOIdle3]
  · iframe He HW8FVc HOIdle2 HOSem2 HOut001F HSlR01T HOIdle3
  iintro ⟨HOFly201F, HSlR01T, HW8FVc, HOSto301T⟩
  iapply (part11 V K c _ _) $$ [HOSto301T HOSem3 HOut001T HRcvReadyF00 HOw HSndReadyF10]
  · iframe He HOSto301T HOSem3 HOut001T HRcvReadyF00 HOw HSndReadyF10
  iintro ⟨HOFly301T, HRcvDoneF00, HSlR10F, HSndSentF10, HOw⟩
  iapply (part12 V K c _ _) $$ [HRcvReadyT00 HOw HSndReadyT10 HSlR10F HW8FVc]
  · iframe He HRcvReadyT00 HOw HSndReadyT10 HSlR10F HW8FVc
  iintro ⟨HRcvDoneT00, HSlR10T, HSndSentT10, HOw, HSlR10F, HW8FVc⟩
  iapply (part13 V K c _) $$ [HOFly000F HOw HOut010F HSlR10T HW8FVc HOFly100T]
  · iframe He HOFly000F HOw HOut010F HSlR10T HW8FVc HOFly100T
  iintro ⟨HOutY00F, HOFly010F, HSlR10T, HW8FVc, HOIdle1, HOSem1, HOutY00T, HOw⟩
  iapply (part14 V K c _) $$ [HOIdle1 HOSem1 HOut010T HRcvReadyF01 HOw]
  · iframe He HOIdle1 HOSem1 HOut010T HRcvReadyF01 HOw
  iintro ⟨HOFly110T, HRcvDoneF01, HSlL11F, HSlR11F, HOw⟩
  iapply (part15 V K c _ _) $$ [HSndReadyF11 HSlL11F HOw HRcvReadyT01 HSndReadyT11 HSlR11F HW8FVc]
  · iframe He HSndReadyF11 HSlL11F HOw HRcvReadyT01 HSndReadyT11 HSlR11F HW8FVc
  iintro ⟨HSndSentF11, HRcvDoneT01, HSlR11T, HSndSentT11, HOw, HSlR11F, HW8FVc⟩
  iapply (part16 V K c _) $$ [HOFly201F HOw HOut011F HSlR11T HW8FVc HOFly301T]
  · iframe He HOFly201F HOw HOut011F HSlR11T HW8FVc HOFly301T
  iintro ⟨HOutY01F, HOFly211F, HSlR11T, HW8FVc, HOIdle3, HOSem3, HOutY01T, HOw⟩
  iapply (part17 V K c _ _) $$ [HOIdle3 HOSem3 HOut011T HRcvReadyF10 HOw]
  · iframe He HOIdle3 HOSem3 HOut011T HRcvReadyF10 HOw
  iintro ⟨HOFly311T, HRcvDoneF10, HSlL20F, HSlR20F, HOw⟩
  iapply (part18 V K c _ _) $$ [HSndReadyF20 HSlL20F HOw HRcvReadyT10 HSndReadyT20]
  · iframe He HSndReadyF20 HSlL20F HOw HRcvReadyT10 HSndReadyT20
  iintro ⟨HSndSentF20, HRcvDoneT10, HSlR20T, HSndSentT20, HOw⟩
  iapply (part19 V K c _ _) $$ [HSlR20F HW8FVc HOFly010F HOw HOut020F HSlR20T]
  · iframe He HSlR20F HW8FVc HOFly010F HOw HOut020F HSlR20T
  iintro ⟨HSlR20F, HOutY10F, HOw, HOFly020F, HSlR20T, HW8FVc⟩
  iapply (part20 V K c _) $$ [HOFly110T HOw HOut020T HRcvReadyF11]
  · iframe He HOFly110T HOw HOut020T HRcvReadyF11
  iintro ⟨HOutY10T, HOFly120T, HRcvDoneF11, HSlL21F, HSlR21F, HOw⟩
  iapply (part21 V K c _ _) $$ [HSndReadyF21 HSlL21F HOw HRcvReadyT11]
  · iframe He HSndReadyF21 HSlL21F HOw HRcvReadyT11
  iintro ⟨HSndSentF21, HRcvDoneT11, HSlL21T, HSlR21T, HOw⟩
  iapply (part22 V K c _ _) $$ [HSndReadyT21 HSlL21T HOw HSlR21F HW8FVc HOFly211F HOut021F HSlR21T]
  · iframe He HSndReadyT21 HSlL21T HOw HSlR21F HW8FVc HOFly211F HOut021F HSlR21T
  iintro ⟨HSndSentT21, HSlR21F, HW8FVc, HOutY11F, HOw, HOFly221F, HSlR21T⟩
  iapply (part23 V K c _ _ _ _) $$ [HW8FVc HOFly311T HOw HOut021T]
  · iframe He HW8FVc HOFly311T HOw HOut021T
  iintro ⟨HW8FVc, HOutY11T, HOw, HOFly321T⟩
  iapply (part24 V K c _ _) $$ [HRcvReadyF20 HOw HRcvReadyT20 HW8FVc HOFly020F]
  · iframe He HRcvReadyF20 HOw HRcvReadyT20 HW8FVc HOFly020F
  iintro ⟨HRcvDoneF20, HSlL30F, HRcvDoneT20, HSlL30T, HSlR30T, HSlR30F, HW8FVc, HOIdle0, HOSem0, HOutY20F, HOw⟩
  iapply (part25 V K c _) $$ [HOIdle0 HOSem0 HOut030F HSlR30T HW8FVc HOFly120T HOw]
  · iframe He HOIdle0 HOSem0 HOut030F HSlR30T HW8FVc HOFly120T HOw
  iintro ⟨HOFly030F, HSlR30T, HW8FVc, HOSem1, HOutY20T, HOw, HOSto130T⟩
  iapply (part26 V K c _ _ _) $$ [HOSto130T HOSem1 HOut030T HRcvReadyF21 HOw HRcvReadyT21]
  · iframe He HOSto130T HOSem1 HOut030T HRcvReadyF21 HOw HRcvReadyT21
  iintro ⟨HOFly130T, HRcvDoneF21, HSlL31F, HRcvDoneT21, HSlL31T, HSlR31T, HOw, HSlR31F⟩
  iapply (part27 V K c _) $$ [HW8FVc HOFly221F HOw HOut031F HSlR31T]
  · iframe He HW8FVc HOFly221F HOw HOut031F HSlR31T
  iintro ⟨HOutY21F, HOw, HOFly231F, HSlR31T, HW8FVc⟩
  iapply (part28 V K c) $$ [HOFly321T HOw HOut031T HOFly030F HOFly130T HOFly231F]
  · iframe He HOFly321T HOw HOut031T HOFly030F HOFly130T HOFly231F
  iintro ⟨HOutY21T, HOFly331T, HOIdle0, HOSem0, HOutY30F, HOIdle1, HOSem1, HOutY30T, HOIdle2, HOSem2, HOutY31F, HOw⟩
  iapply (part29 V K c) $$ [HOFly331T HOw HSndSentF00 HSndSentT00]
  · iframe He HOFly331T HOw HSndSentF00 HSndSentT00
  iintro ⟨HOIdle3, HOSem3, HOutY31T, HSndDoneF00, HSlL00F, HSndDoneT00, HSlL00T, HOw⟩
  iapply (part30 V K c) $$ [HSndSentF01 HOw HSndSentT01 HSndSentF10 HSndSentT10]
  · iframe He HSndSentF01 HOw HSndSentT01 HSndSentF10 HSndSentT10
  iintro ⟨HSndDoneF01, HSlL01F, HSndDoneT01, HSlL01T, HSndDoneF10, HSlL10F, HSndDoneT10, HSlL10T, HOw⟩
  iapply (part31 V K c) $$ [HSndSentF11 HOw HSndSentT11 HSndSentF20]
  · iframe He HSndSentF11 HOw HSndSentT11 HSndSentF20
  iintro ⟨HSndDoneF11, HSlL11F, HSndDoneT11, HSlL11T, HSndDoneF20, HSlL20F, HOw⟩
  simp only [Prog.lift, Prog.bind_op, Prog.bind_ret, Prog.pure_eq_ret]
  iapply (s_sent V K c true 2 0 2 rfl) $$ [HSndSentT20 HOw]
  · iframe He HSndSentT20 HOw
  iintro ⟨HSndDoneT20, HSlL20T, HOw⟩
  simp only [wp_ret]
  imodintro
  iapply (s_sent V K c false 2 1 2 rfl) $$ [HSndSentF21 HOw]
  · iframe He HSndSentF21 HOw
  iintro ⟨HSndDoneF21, HSlL21F, HOw⟩
  simp only [wp_ret]
  imodintro
  imodintro
  iapply (s_sent V K c true 2 1 2 rfl) $$ [HSndSentT21 HOw]
  · iframe He HSndSentT21 HOw
  iintro ⟨HSndDoneT21, HSlL21T, HOw⟩
  simp only [wp_ret]
  imodintro
  imodintro
  iapply Hk
  unfold Finish
  isplitl [HXinVc]; · iexact HXinVc
  isplitl [HSxVc]; · iexact HSxVc
  isplitl [HSwVc]; · iexact HSwVc
  isplitl [HSlL00F HSlR00F HSlL01F HSlR01F HSlL10F HSlR10F HSlL11F HSlR11F HSlL20F HSlR20F HSlL21F HSlR21F HSlL30F HSlR30F HSlL31F HSlR31F]
  · iapply (buf_back V c false)
    iapply (Entails.of_eq (over_slots (fun b : Fin 4 × Fin 2 => iprop(SlL V c b.1 b.2 false ∗ SlR V c b.1 b.2 false))).symm)
    isplitl [HSlL00F HSlR00F]
    · isplitl [HSlL00F]; · iexact HSlL00F
      iexact HSlR00F
    isplitl [HSlL01F HSlR01F]
    · isplitl [HSlL01F]; · iexact HSlL01F
      iexact HSlR01F
    isplitl [HSlL10F HSlR10F]
    · isplitl [HSlL10F]; · iexact HSlL10F
      iexact HSlR10F
    isplitl [HSlL11F HSlR11F]
    · isplitl [HSlL11F]; · iexact HSlL11F
      iexact HSlR11F
    isplitl [HSlL20F HSlR20F]
    · isplitl [HSlL20F]; · iexact HSlL20F
      iexact HSlR20F
    isplitl [HSlL21F HSlR21F]
    · isplitl [HSlL21F]; · iexact HSlL21F
      iexact HSlR21F
    isplitl [HSlL30F HSlR30F]
    · isplitl [HSlL30F]; · iexact HSlL30F
      iexact HSlR30F
    isplitl [HSlL31F]; · iexact HSlL31F
    iexact HSlR31F
  isplitl [HSlL00T HSlR00T HSlL01T HSlR01T HSlL10T HSlR10T HSlL11T HSlR11T HSlL20T HSlR20T HSlL21T HSlR21T HSlL30T HSlR30T HSlL31T HSlR31T]
  · iapply (buf_back V c true)
    iapply (Entails.of_eq (over_slots (fun b : Fin 4 × Fin 2 => iprop(SlL V c b.1 b.2 true ∗ SlR V c b.1 b.2 true))).symm)
    isplitl [HSlL00T HSlR00T]
    · isplitl [HSlL00T]; · iexact HSlL00T
      iexact HSlR00T
    isplitl [HSlL01T HSlR01T]
    · isplitl [HSlL01T]; · iexact HSlL01T
      iexact HSlR01T
    isplitl [HSlL10T HSlR10T]
    · isplitl [HSlL10T]; · iexact HSlL10T
      iexact HSlR10T
    isplitl [HSlL11T HSlR11T]
    · isplitl [HSlL11T]; · iexact HSlL11T
      iexact HSlR11T
    isplitl [HSlL20T HSlR20T]
    · isplitl [HSlL20T]; · iexact HSlL20T
      iexact HSlR20T
    isplitl [HSlL21T HSlR21T]
    · isplitl [HSlL21T]; · iexact HSlL21T
      iexact HSlR21T
    isplitl [HSlL30T HSlR30T]
    · isplitl [HSlL30T]; · iexact HSlL30T
      iexact HSlR30T
    isplitl [HSlL31T]; · iexact HSlL31T
    iexact HSlR31T
  ihave Hst := (st_back c) $$ [HStIdle0 HStIdle1]
  · isplitl [HStIdle0]; · iexact HStIdle0
    iexact HStIdle1
  icases Hst with ⟨Hst, Hws0, Hws1⟩
  isplitl [Hst]; · iexact Hst
  isplitl [HW8FVc]
  · iapply (w8_back V c)
    iexact HW8FVc
  isplitl [HOIdle0 HOIdle1 HOIdle2 HOIdle3]
  · iapply (os_back c)
    iapply (Entails.of_eq (over_four (fun s : Fin 4 => OIdle (F := F) c s)).symm)
    isplitl [HOIdle0]; · iexact HOIdle0
    isplitl [HOIdle1]; · iexact HOIdle1
    isplitl [HOIdle2]; · iexact HOIdle2
    iexact HOIdle3
  isplitl [Hws0]; · iexact Hws0
  isplitl [Hws1]; · iexact Hws1
  isplitl [HOSem0 HOSem1 HOSem2 HOSem3]
  · iapply (Entails.of_eq (over_four (fun s : Fin 4 => OSem (F := F) c s)).symm)
    isplitl [HOSem0]; · iexact HOSem0
    isplitl [HOSem1]; · iexact HOSem1
    isplitl [HOSem2]; · iexact HOSem2
    iexact HOSem3
  isplitl [HWBlk0 HWBlk1 HWBlk2 HWBlk3 HWBlk4 HWBlk5 HWBlk6 HWBlk7 HWr]
  · iapply (w_split c V).2
    isplitl [HWBlk0 HWBlk1 HWBlk2 HWBlk3 HWBlk4 HWBlk5 HWBlk6 HWBlk7]
    · iapply (Entails.of_eq (over_eight (fun i : Fin 8 => WBlk V c i)).symm)
      isplitl [HWBlk0]; · iexact HWBlk0
      isplitl [HWBlk1]; · iexact HWBlk1
      isplitl [HWBlk2]; · iexact HWBlk2
      isplitl [HWBlk3]; · iexact HWBlk3
      isplitl [HWBlk4]; · iexact HWBlk4
      isplitl [HWBlk5]; · iexact HWBlk5
      isplitl [HWBlk6]; · iexact HWBlk6
      iexact HWBlk7
    iexact HWr
  isplitl [HOutY00F HOutY00T HOutY01F HOutY01T HOutY10F HOutY10T HOutY11F HOutY11T HOutY20F HOutY20T HOutY21F HOutY21T HOutY30F HOutY30T HOutY31F HOutY31T]
  · iapply (Entails.of_eq (out_join c V))
    iapply (Entails.of_eq (over_ot (fun t : OT => OutY V c t.1 t.2.1 t.2.2)).symm)
    isplitl [HOutY00F]; · iexact HOutY00F
    isplitl [HOutY00T]; · iexact HOutY00T
    isplitl [HOutY01F]; · iexact HOutY01F
    isplitl [HOutY01T]; · iexact HOutY01T
    isplitl [HOutY10F]; · iexact HOutY10F
    isplitl [HOutY10T]; · iexact HOutY10T
    isplitl [HOutY11F]; · iexact HOutY11F
    isplitl [HOutY11T]; · iexact HOutY11T
    isplitl [HOutY20F]; · iexact HOutY20F
    isplitl [HOutY20T]; · iexact HOutY20T
    isplitl [HOutY21F]; · iexact HOutY21F
    isplitl [HOutY21T]; · iexact HOutY21T
    isplitl [HOutY30F]; · iexact HOutY30F
    isplitl [HOutY30T]; · iexact HOutY30T
    isplitl [HOutY31F]; · iexact HOutY31F
    iexact HOutY31T
  isplitl [HSndDoneF00 HSndDoneT00 HSndDoneF01 HSndDoneT01 HSndDoneF10 HSndDoneT10 HSndDoneF11 HSndDoneT11 HSndDoneF20 HSndDoneT20 HSndDoneF21 HSndDoneT21]
  · iapply (Entails.of_eq (over_xf (fun x : Xf => SndDone (F := F) c x)).symm)
    isplitl [HSndDoneF00]; · iexact HSndDoneF00
    isplitl [HSndDoneT00]; · iexact HSndDoneT00
    isplitl [HSndDoneF01]; · iexact HSndDoneF01
    isplitl [HSndDoneT01]; · iexact HSndDoneT01
    isplitl [HSndDoneF10]; · iexact HSndDoneF10
    isplitl [HSndDoneT10]; · iexact HSndDoneT10
    isplitl [HSndDoneF11]; · iexact HSndDoneF11
    isplitl [HSndDoneT11]; · iexact HSndDoneT11
    isplitl [HSndDoneF20]; · iexact HSndDoneF20
    isplitl [HSndDoneT20]; · iexact HSndDoneT20
    isplitl [HSndDoneF21]; · iexact HSndDoneF21
    iexact HSndDoneT21
  isplitl [HRcvDoneF00 HRcvDoneT00 HRcvDoneF01 HRcvDoneT01 HRcvDoneF10 HRcvDoneT10 HRcvDoneF11 HRcvDoneT11 HRcvDoneF20 HRcvDoneT20 HRcvDoneF21 HRcvDoneT21]
  · iapply (Entails.of_eq (over_xf (fun x : Xf => RcvDone (F := F) c x)).symm)
    isplitl [HRcvDoneF00]; · iexact HRcvDoneF00
    isplitl [HRcvDoneT00]; · iexact HRcvDoneT00
    isplitl [HRcvDoneF01]; · iexact HRcvDoneF01
    isplitl [HRcvDoneT01]; · iexact HRcvDoneT01
    isplitl [HRcvDoneF10]; · iexact HRcvDoneF10
    isplitl [HRcvDoneT10]; · iexact HRcvDoneT10
    isplitl [HRcvDoneF11]; · iexact HRcvDoneF11
    isplitl [HRcvDoneT11]; · iexact HRcvDoneT11
    isplitl [HRcvDoneF20]; · iexact HRcvDoneF20
    isplitl [HRcvDoneT20]; · iexact HRcvDoneT20
    isplitl [HRcvDoneF21]; · iexact HRcvDoneF21
    iexact HRcvDoneT21
  isplitl [Hb]; · iexact Hb
  iexact HOw

end Body

end Cert.GemmProof
-- ==== Proof.Launch.lean ====
/-
The launch: every device's run put together into the run of the whole machine.
-/
module

public import proofs.«01_k».proof.Proof.Ghost
public import proofs.«01_k».proof.Proof.Body
public import proofs.«01_k».proof.Proof.Gen.KernelIdeal.Points
public import Idealize.ShloMosaic.Lib.Pipeline.CollectiveSegs

@[expose] public section

noncomputable section

namespace Cert.GemmProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The operands a memory holds, as the kernel finds them staged. -/
def vals : Vals F where
  X c := (win0_0.blk (0 : Fin 1)).view.read (Elt F) (m ((c : Thread nD τ).loc main_arg0))
  W c := m ((c : Thread nD τ).loc main_arg1)
  sx c := (win0_1.blk (0 : Fin 1)).view.read (Elt F) (m ((c : Thread nD τ).loc main_arg2))
  sw c := (win0_2.blk (0 : Fin 1)).view.read (Elt F) (m ((c : Thread nD τ).loc main_arg3))

abbrev SVm : Dev nD → Bool → Fin 2 → Slab F := SV (vals m)

/-- What a device has before its windows and its scratch are joined to it. -/
def start (c : Dev nD) : sProp 𝕄 :=
  iprop(G' (SVm m) c ∗ levAts L lv ∗ cred (tallyAt (barCell c) () 2) ∗ (bigSep Finset.univ fun x : Xf => cred (tallyAt (rcvCell c x) () N))
    ∗ mPts c wM fullShare ((vals m).W c) ∗ OutM0 (F := F) c)

/-- The two arrays the kernel copies from and to itself, at the end. -/
def arrays (c : Dev nD) : sProp 𝕄 := iprop(mPts c wM fullShare ((vals m).W c) ∗ mPts c outM fullShare (OUT c (vals m)))

def scratch (c : Dev nD) : sProp 𝕄 :=
  iprop((∃ g, fwM.view.loc (c : Thread nD τ) ↦{fullShare} g) ∗ (∃ g, bwM.view.loc (c : Thread nD τ) ↦{fullShare} g)
    ∗ (∃ g, stM.view.loc (c : Thread nD τ) ↦{fullShare} g) ∗ (∃ g, w8M.view.loc (c : Thread nD τ) ↦{fullShare} g) ∗ (∃ g, osM.view.loc (c : Thread nD τ) ↦{fullShare} g))

def Φ₀ (c : Dev nD) : sProp 𝕄 := iprop(start m c ∗ scratch (F := F) c)
def Φ₁ (c : Dev nD) : sProp 𝕄 :=
  iprop((semVal (barCell c) 0 ∗ arrays m c)
    ∗ ((bigSep Finset.univ (fun x : Xf => semVal (sndCell c x) 0) ∗ bigSep Finset.univ (fun x : Xf => semVal (rcvCell c x) 0)) ∗ locSems (F := F) c)
    ∗ scratch (F := F) c)

def dats (_ : Fin 1) (c : Dev nD) : Dat τ (Elt F) Unit ℕ UU ℕ cfg0 c where
  A w := m ((cfg0.win w).arr.view.loc (c : Thread nD τ))
  after w _ := match w with
    | ⟨0, _⟩ => (vals m).X c
    | ⟨1, _⟩ => (vals m).sx c
    | ⟨2, _⟩ => (vals m).sw c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = mPts c (Memref.whole b) fullShare X := by
  have e : (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
    unfold owns; simp only [Memref.view_whole, View.read_whole, View.set_whole]
  rw [e, whole_pts]
  refine BI.Entails.antisymm (show _ ⊢ (_ : sProp 𝕄) from ?_) (show _ ⊢ (_ : sProp 𝕄) from ?_)
  · iintro ⟨%f, %h, H⟩
    subst h
    iexact H
  · iintro H
    iexists X
    isplitr; · (ipureintro; rfl)
    iexact H

section Body

variable (c : Dev nD)

def bodyPre : sProp 𝕄 :=
  iprop(Φ₀ m c ∗ (dats m 0 c).owesAt () t0_0.castSucc
    ∗ (∃ d, mPts c xM fullShare ((dats m 0 c).before (0 : Fin 3) t0_0 d))
    ∗ (∃ d, mPts c sxM fullShare ((dats m 0 c).before (1 : Fin 3) t0_0 d))
    ∗ (∃ d, mPts c swM fullShare ((dats m 0 c).before (2 : Fin 3) t0_0 d)))
def bodyPost : sProp 𝕄 :=
  iprop(Φ₁ m c ∗ (dats m 0 c).owesAt () t0_0.succ ∗ mPts c xM fullShare ((vals m).X c) ∗ mPts c sxM fullShare ((vals m).sx c) ∗ mPts c swM fullShare ((vals m).sw c))

theorem snd_toks : (iprop((bigSep Finset.univ fun x : Xf => dutyTok ER (sndCell c x) 0 false) ∗ (bigSep Finset.univ fun x : Xf => dutyTok ER (rcvCell (peer x.1 c) x) 0 false)
      ∗ bigSep Finset.univ fun x : Xf => atPos ER (sndCell c x) 0 ∅ 0) : sProp 𝕄) ⊢ bigSep Finset.univ fun x : Xf => SndTok (F := F) c x := by
  rw [← bigSep_sep', ← bigSep_sep']
  exact BI.Entails.refl _
theorem rcv_toks : (iprop((bigSep Finset.univ fun x : Xf => cred (tallyAt (rcvCell c x) () N)) ∗ bigSep Finset.univ fun x : Xf => atPos ER (rcvCell c x) 0 ∅ 0) : sProp 𝕄)
      ⊢ bigSep Finset.univ fun x : Xf => RcvReady (F := F) c x := by
  rw [← bigSep_sep']
  exact BI.Entails.refl _

theorem some_scratch (b : Ref sig .tc) : (iprop(∃ g, (Memref.whole b).view.loc (c : Thread nD τ) ↦{fullShare} g) : sProp 𝕄) ⊢ iprop(∃ g, mPts (F := F) c (Memref.whole b) fullShare g) := by
  iintro ⟨%g, H⟩
  iexists g
  iapply (Entails.of_eq (whole_pts c b fullShare g).symm)
  iexact H

/-- What the launch gives a device is what its body starts from. -/
theorem to_start : (iprop(Φ₀ m c ∗ (∃ W, owes (c : Thread nD τ) (O₀ c) W) ∗ mPts c xM fullShare ((vals m).X c) ∗ mPts c sxM fullShare ((vals m).sx c) ∗ mPts c swM fullShare ((vals m).sw c)) : sProp 𝕄)
    ⊢ iprop(∃ K, env (SVm m) K ∗ Start (vals m) c) := by
  unfold Φ₀ start G' lin payToks locSems scratch env Start BarReady Xin Sx Sw Ow0 Buf0 StM0 W8M0 OsM0
  rw [over_ck]
  iintro ⟨⟨⟨⟨%K, #HK, ⟨HaB, HaS, HaV⟩, ⟨⟨HtP, HtN⟩, HtS, HtV⟩, ⟨HW0, HW1⟩, HOs⟩, #HL, HcB, HcV, Hw, Hout⟩, HF, HB, HSt, HW8, HOst⟩, HO, HX, HSx, HSw⟩
  iexists K
  isplitr
  · isplitl; · iexact HK
    iexact HL
  isplitl [HX]; · iexact HX
  isplitl [HSx]; · iexact HSx
  isplitl [HSw]; · iexact HSw
  isplitl [HF]; · iapply (some_scratch c cc0_scratch0); iexact HF
  isplitl [HB]; · iapply (some_scratch c cc0_scratch1); iexact HB
  isplitl [HSt]; · iapply (some_scratch c cc0_scratch2); iexact HSt
  isplitl [HW8]; · iapply (some_scratch c cc0_scratch3); iexact HW8
  isplitl [HOst]; · iapply (some_scratch c cc0_scratch4); iexact HOst
  isplitl [HW0]; · iexact HW0
  isplitl [HW1]; · iexact HW1
  isplitl [HOs]; · iexact HOs
  isplitl [Hw]; · iexact Hw
  isplitl [Hout]; · iexact Hout
  isplitl [HtP HtN HcB HaB]
  · isplitl [HtP]; · iexact HtP
    isplitl [HtN]; · iexact HtN
    isplitl [HcB] <;> iassumption
  isplitl [HtS HtV HaS]
  · iapply (snd_toks c)
    isplitl [HtS]; · iexact HtS
    isplitl [HtV] <;> iassumption
  isplitl [HcV HaV]
  · iapply (rcv_toks c)
    isplitl [HcV] <;> iassumption
  iexact HO

/-- What its body leaves it with is what the pipeline takes back. -/
theorem of_finish : (Finish (vals m) c : sProp 𝕄)
    ⊢ iprop(Φ₁ m c ∗ Ow (F := F) c [] ∗ mPts c xM fullShare ((vals m).X c) ∗ mPts c sxM fullShare ((vals m).sx c) ∗ mPts c swM fullShare ((vals m).sw c)) := by
  unfold Finish Φ₁ arrays scratch locSems Xin Sx Sw SndDone RcvDone
  iintro ⟨HX, HSx, HSw, HF, HB, HSt, HW8, HOst, HW0, HW1, HOs, Hw, Hout, HsS, HsV, HsB, HO⟩
  isplitr [HO HX HSx HSw]
  · isplitl [HsB Hw Hout]
    · isplitl [HsB]; · iexact HsB
      isplitl [Hw] <;> iassumption
    isplitl [HsS HsV HW0 HW1 HOs]
    · isplitl [HsS HsV]
      · isplitl [HsS] <;> iassumption
      isplitl [HW0 HW1]
      · isplitl [HW0] <;> iassumption
      iexact HOs
    isplitl [HF]; · iexact HF
    isplitl [HB]; · iexact HB
    isplitl [HSt]; · iexact HSt
    isplitl [HW8] <;> iassumption
  isplitl [HO]; · iexact HO
  isplitl [HX]; · iexact HX
  isplitl [HSx] <;> iassumption

set_option maxRecDepth 4000 in
theorem body_launch : (bodyPre m c : sProp 𝕄) ⊢ WP c (cc0_body xM (Memref.isWhole_whole _) wM (Memref.isWhole_whole _) sxM (Memref.isWhole_whole _) swM (Memref.isWhole_whole _) outM (Memref.isWhole_whole _) fwM (Memref.isWhole_whole _) bwM (Memref.isWhole_whole _) stM (Memref.isWhole_whole _) w8M (Memref.isWhole_whole _) osM (Memref.isWhole_whole _) cc0_scratch5 cc0_scratch6 cc0_scratch7 cc0_scratch8 cc0_scratch9 cc0_scratch10) (fun _ => bodyPost m c) := by
  unfold bodyPre
  iintro ⟨Hphi, Ho, ⟨%d0, HX⟩, ⟨%d1, HSx⟩, ⟨%d2, HSw⟩⟩
  have h0 : (dats m 0 c).before (0 : Fin 3) t0_0 d0 = (vals m).X c := by unfold Dat.before; rw [if_pos (fetch0_0 t0_0)]; rfl
  have h1 : (dats m 0 c).before (1 : Fin 3) t0_0 d1 = (vals m).sx c := by unfold Dat.before; rw [if_pos (fetch0_1 t0_0)]; rfl
  have h2 : (dats m 0 c).before (2 : Fin 3) t0_0 d2 = (vals m).sw c := by unfold Dat.before; rw [if_pos (fetch0_2 t0_0)]; rfl
  rw [h0, h1, h2]
  unfold Dat.owesAt Pipeline.owesWithin
  icases Ho with ⟨%W, %hW, HO⟩
  rw [show (dats m 0 c).owed t0_0.castSucc = O₀ c from rfl]
  ihave HS := (to_start m c) $$ [Hphi HO HX HSx HSw]
  · isplitl [Hphi]; · iexact Hphi
    isplitl [HO]; · iexists W; iexact HO
    isplitl [HX]; · iexact HX
    isplitl [HSx] <;> iassumption
  icases HS with ⟨%K, #He, HS⟩
  iapply (body (vals m) K c) $$ [HS]
  · iframe He HS
  iintro HF
  ihave HF := (of_finish m c) $$ HF
  unfold Ow
  icases HF with ⟨Hphi, ⟨%W', HO⟩, HX, HSx, HSw⟩
  unfold bodyPost Dat.owesAt Pipeline.owesWithin
  rw [show (dats m 0 c).owed t0_0.succ = 0 from rfl]
  isplitl [Hphi]; · iexact Hphi
  isplitl [HO]
  · iexists W'
    isplitr; · ipureintro; exact fun _ _ => Or.inl trivial
    iexact HO
  isplitl [HX]; · iexact HX
  isplitl [HSx] <;> iassumption

set_option maxRecDepth 20000 in
/-- The pipeline's obligation on device `c`'s body. -/
theorem body_obligation : BodyObligation (dats (F := F) m 0 c) (defs₀ (F := F)) 𝒱₀ () Set.univ := fun t => by
  rw [fin_N0 t]
  rw [bigSep_W0, bigSep_W0]
  simp only [owns_whole]
  exact body_launch m c

end Body

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (SVm m) c)
      ⊢ |={Set.univ}=> iprop(start m c ∗ emp) := by
  rw [Pipeline.unscopedRestP_none, unscopedRest0_eq]
  iintro ⟨⟨Hw, Ho⟩, Hlev, Hcr, -, HG⟩
  ihave Hc := (creds (F := F) c) $$ Hcr
  icases Hc with ⟨H1, HN⟩
  imodintro
  unfold start OutM0
  isplitl
  · isplitl [HG]; · iexact HG
    isplitl [Hlev]; · iexact Hlev
    isplitl [H1]; · iexact H1
    isplitl [HN]; · iexact HN
    isplitl [Hw]; · iapply (Entails.of_eq (whole_pts c main_arg1 fullShare (m ((c : Thread nD τ).loc main_arg1))).symm); iexact Hw
    iexists (m ((c : Thread nD τ).loc main_v1))
    iapply (Entails.of_eq (whole_pts c main_v1 fullShare (m ((c : Thread nD τ).loc main_v1))).symm); iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop((unscopedSems0 c ∗ arrays m c) ∗ Pipeline.ownSems0 lsem c ∗ Pipeline.scopedRest cfg0.spec c) := by
  rw [show (dats m 0 c).Φ (Fin.last cfg0.N) = Φ₁ m c from rfl, scopedRest0_eq, own_sems, unscoped_sems]
  exact BI.Entails.refl _

theorem stage_sem (w : Fin cfg0.W) (s : Fin (cfg0.win w).nbuf) (k : CK) : csem k ≠ SemLoc.dma ((cfg0.win w).sem s) := by
  rcases k with _ | k
  · intro h; cases h
  · exact lsem_facts.disj (.inl k) w s

theorem waits (c : Dev nD) : (levAts L lv : sProp 𝕄) ⊢ Pipeline.cellsWaits cfgs (dats m) () 0 c :=
  Pipeline.cellsWaits_intro cfgs (dats m) () 0 c fun w s t =>
    mayWait_stage c _ (stage_sem w s) _ (by
      rcases t with ⟨_ | _, ht⟩
      · exact Or.inl rfl
      · exact Or.inr rfl)

/-! ## The run -/

/-- What a device's memory holds at the end: the weight as it was, the result. -/
def QA (c : Dev nD) (s : MemSt nD τ sig (Elt F)) : Prop :=
  (∀ sm : SemLoc sig, sm.isScoped .tc = false → s.sem ((c.tc : Thread nD τ), sm) = 0)
    ∧ s.mem ((c.tc : Thread nD τ).loc main_arg1) = m ((c.tc : Thread nD τ).loc main_arg1) ∧ s.mem ((c.tc : Thread nD τ).loc main_v1) = OUT c (vals m)

theorem whole_read (c : Dev nD) (b : Ref sig .tc) (f : b.ty.Contents (Elt F)) (s' : Phys nD τ sig (Elt F)) :
    (iprop(SI s' ∗ mPts c (Memref.whole b) fullShare f) : sProp 𝕄) ⊢ iprop(⌜s'.mem.mem ((c.tc : Thread nD τ).loc b) = f⌝) := by
  rw [whole_pts]
  iintro H
  ihave %h := (SI_pointsTo_agree (st := s') (ℓ := (c.tc : Thread nD τ).loc b) (I := Finset.univ) (q := fullShare) (f := f)) $$ H
  ipureintro
  exact funext fun i => h i (Finset.mem_univ i)

theorem arrays_read (c : Dev nD) (s' : Phys nD τ sig (Elt F)) :
    (iprop((unscopedSems0 c ∗ arrays m c) ∗ emp ∗ SI s') : sProp 𝕄) ⊢ |={Set.univ}=> iprop(⌜QA m c s'.mem⌝ ∗ SI s') := by
  unfold arrays
  iintro ⟨⟨Hu, Hw, Ho⟩, -, HSI⟩
  ihave %hw := (whole_read c main_arg1 ((vals m).W c) s') $$ [HSI Hw]
  · isplitl [HSI] <;> iassumption
  ihave %ho := (whole_read c main_v1 (OUT c (vals m)) s') $$ [HSI Ho]
  · isplitl [HSI] <;> iassumption
  imod (Pipeline.unscopedSems0_read (X := unscopedSems0 c) (c := c) fupd_intro s') $$ [Hu HSI] with ⟨%hs, HSI⟩
  · isplitl [Hu] <;> iassumption
  imodintro
  isplitr; · ipureintro; exact ⟨hs, hw, ho⟩
  iexact HSI

set_option maxRecDepth 8000 in
theorem run_main : θ_run defs (onTc (τ := τ) (main (F := F))) ⟨m, fun _ => 0, ρ⟩ (fun r => (∀ c : Dev nD,
      r.2.mem ((c.tc : Thread nD τ).loc main_v1) = OUT c (vals m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_region_owing_glob_pf (fun p => (cfgs p).toPCfg) (fun p => (cfgs p).toPCfg_adm) (dats m) () cellOf_inj (0 : Fin 1)
    winFacts0.to₀ lsem_facts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (SVm m)) (G' := G' (SVm m)) (u₀ := u₀)
    (hu₀ := by
      unfold u₀
      iintro Hu
      ihave H := (ownU_pair _ _) $$ Hu
      icases H with ⟨HP, HX⟩
      ihave H := (own_pair_emb embR _ _) $$ HX
      icases H with ⟨HX, -⟩
      imod (fund_ring (SVm m)) $$ HX with HG
      imodintro
      isplitl [HP] <;> iassumption)
    (hglob := glob (SVm m))
    (hA := fun _ _ => rfl) (hpf := fun _ k => k.elim0)
    (X := start m) (Y := fun c => iprop(unscopedSems0 c ∗ arrays m c)) (Z := fun _ => iprop(emp))
    (hX := start_intro m ρ) (hin := phi0_intro m) (hout := phi1_exit m)
    (QY := QA m) (hY := arrays_read m)
    (hQ := fun _ h hs => ⟨fun c => ⟨(h c).2.2.2.2, ((h c).1 0).trans ((dats m 0 c).arrAt_in 0 rfl _), (h c).2.2.2.1,
      ((h c).1 1).trans ((dats m 0 c).arrAt_in 1 rfl _), ((h c).1 2).trans ((dats m 0 c).arrAt_in 2 rfl _)⟩, sem_eq_zero hs fun c => (h c).2.2.1⟩)

end Cert.GemmProof
-- ==== Proof.Same.lean ====
/-
The program read at words and the program read over the reals are one text.
-/
module

public import proofs.«01_k».proof.Proof.Gen.Kernel
public import proofs.«01_k».proof.Proof.Gen.KernelIdeal

@[expose] public section

set_option maxHeartbeats 2000000

noncomputable section

namespace Cert.GemmProof

open Idealize.ShloMosaic Idealize.SL.Sem

variable {F : FTy → Type} [FloatOps F]

theorem defs₀_eq : Cert.Kernel.defs₀ (F := F) = Cert.KernelIdeal.defs₀ (F := F) :=
  congrArg (Defs.onTc (nD := Cert.Kernel.nD) (τ := Cert.Kernel.τ)) (funext fun l => funext fun a => by
    match l, a with
    | ⟨0, _⟩, (t, s) => rfl
    | ⟨_ + 1, h⟩, _ => exact absurd h (Nat.not_lt.2 (Nat.le_add_left _ _)))

theorem defs_eq : Cert.Kernel.defs (F := F) = Cert.KernelIdeal.defs (F := F) :=
  congrArg (Pipeline.defs (Cert.KernelIdeal.pcfgs (F := F))) defs₀_eq

/-- A run of the one is a run of the other. -/
theorem run_same (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := by
  rw [defs_eq]
  exact h

end Cert.GemmProof

end
-- ==== Proof.Values.lean ====
/-
What the kernel computes, over the reals: every element of a device's result as a sum of products of the operands'
elements, scaled and put through the logistic gate.
-/
module

public import proofs.«01_k».proof.Proof.Outs
public import Idealize.ShloMosaic.Lib.Pointwise

@[expose] public section

set_option maxRecDepth 16384

noncomputable section

namespace Cert.GemmProof

open Cert.KernelIdeal Cert.KernelIdeal.Gen

open Idealize.ShloMosaic
open Idealize.ShloMosaic.TcCoe

/-! ## The operands as the body holds them -/

section Reads

variable {F : FTy → Type} [FloatOps F] (V : Vals F)

/-- A row of the staged operand lies, in the half that goes in direction `d`, `512 d` rows further down. -/
theorem half_read (c : Dev nD) (d : Bool) (r : Fin 512) (l : Fin 4096) :
    xM.view.readAt (Elt F) (halfR d).toLoadRect (xM.view.rep (V.X c)) (ix2 r l)
      = V.X c (ix2 ⟨512 * d.toNat + r.val, by cases d <;> simp <;> omega⟩ l) := by
  rw [rep_whole (b := cc0_stg0_0)]
  refine congrArg (V.X c) (funext fun a => Fin.ext ?_)
  fin_cases a
  · show 512 * d.toNat + 1 * r.val = 512 * d.toNat + r.val; omega
  · show 0 + 1 * l.val = l.val; omega

/-- A block of rows of the weight, of this device's columns. -/
theorem WB_at (c : Dev nD) (i : Fin 8) (r : Fin 512) (l : Fin 2048) :
    WB V c i (ix2 r l) = V.W c (ix2 ⟨512 * i.val + r.val, by omega⟩ ⟨2048 * c.val + l.val, by have h : c.val < 4 := c.isLt; omega⟩) := by
  refine congrArg (V.W c) (funext fun a => Fin.ext ?_)
  have e := wOff_eq c i
  fin_cases a
  · show wOff c i 0 + 1 * r.val = 512 * i.val + r.val
    rw [e]; show 512 * i.val + 1 * r.val = _; omega
  · show wOff c i 1 + 1 * l.val = 2048 * c.val + l.val
    rw [e]; show 2048 * c.val + 1 * l.val = _; omega

end Reads

section OverReals

variable (V : Vals Ideal)

theorem slab_row (d : Bool) (j : Fin 2) (r : Fin 256) : 512 * d.toNat + 256 * j.val + r.val < 1024 := by
  have hd : d.toNat ≤ 1 := Bool.toNat_le d
  omega

/-- The slab a device sends holds its rows, the change of format being nothing over the reals. -/
theorem SV_at (c : Dev nD) (d : Bool) (j : Fin 2) (r : Fin 256) (l : Fin 4096) :
    SV V c d j (ix2 r l) = V.X c (ix2 ⟨512 * d.toNat + 256 * j.val + r.val, slab_row d j r⟩ l) := by
  have e : slotIx j (ix2 r l) = ix3 (0 : Fin 1) (⟨256 * j.val + r.val, by omega⟩ : Fin 512) l := by
    funext a; fin_cases a <;> rfl
  unfold SV
  rw [e]
  unfold castRows k0_pay1
  pointwise
  rw [half_read]
  refine congrArg (V.X c) (congrArg (fun q => ix2 q l) (Fin.ext ?_))
  show 512 * d.toNat + (256 * j.val + r.val) = 512 * d.toNat + 256 * j.val + r.val; omega

/-- The weight a device keeps is its columns of the weight. -/
theorem W8_at (c : Dev nD) (k : Fin 4096) (l : Fin 2048) :
    W8 V c (ix2 k l) = V.W c (ix2 k ⟨2048 * c.val + l.val, by have h : c.val < 4 := c.isLt; omega⟩) := by
  have e : w8Ix (ix2 k l) = ix2 (⟨k.val % 512, Nat.mod_lt _ (by decide)⟩ : Fin 512) l := by
    funext a; fin_cases a <;> rfl
  unfold W8
  rw [e]
  unfold wCast k0_pay3
  pointwise
  rw [WB_at]
  refine congrArg (V.W c) (congrArg (fun q => ix2 q _) (Fin.ext ?_))
  show 512 * (k.val / 512) + k.val % 512 = k.val; omega

/-- The scaled product at a row of one device's left operand and a column of the weight. -/
def pre (x w : Fin 4096 → EReal) (s : EReal) : EReal := (∑ k : Fin 4096, x k * w k) * s

/-- A block of the result, computed on device `c` from the rows device `hop d k c` sent. -/
theorem YB_at (c : Dev nD) (k : Fin 4) (j : Fin 2) (d : Bool) (r : Fin 256) (l : Fin 2048) :
    YB V c k j d (ix2 r l)
      = (fun y => y * Ideal.logistic y)
          (pre (fun q => V.X (hop d k c) (ix2 ⟨512 * d.toNat + 256 * j.val + r.val, slab_row d j r⟩ q))
            (fun q => V.W c (ix2 q ⟨2048 * c.val + l.val, by have h : c.val < 4 := c.isLt; omega⟩)) (V.sx c ix1 * V.sw c ix1)) := by
  unfold YB k0_pay14 scl k0_pay12 lslab
  pointwise
  simp only [SV_at, W8_at]
  rfl

/-- An element of a device's result. -/
theorem OUT_at (c : Dev nD) (r : Fin 4096) (l : Fin 2048) :
    OUT c V (ix2 r l)
      = (fun y => y * Ideal.logistic y)
          (pre (fun q => V.X ⟨r.val / 1024, by show _ < 4; omega⟩ (ix2 ⟨r.val % 1024, Nat.mod_lt _ (by decide)⟩ q))
            (fun q => V.W c (ix2 q ⟨2048 * c.val + l.val, by have h : c.val < 4 := c.isLt; omega⟩)) (V.sx c ix1 * V.sw c ix1)) := by
  have hr : r.val / 256 < 16 := by omega
  have h := blkOf_eq c ⟨r.val / 256, hr⟩
  have e : oIx (ix2 r l) = ix2 (⟨r.val % 256, Nat.mod_lt _ (by decide)⟩ : Fin 256) l := by
    funext a; fin_cases a <;> rfl
  show YB V c (blkOf c ⟨r.val / 256, hr⟩).1 (blkOf c ⟨r.val / 256, hr⟩).2.1 (blkOf c ⟨r.val / 256, hr⟩).2.2 (oIx (ix2 r l)) = _
  rw [e, YB_at]
  generalize blkOf c ⟨r.val / 256, hr⟩ = t at h
  obtain ⟨k, j, d⟩ := t
  have h' : 1024 * (hop d k c).val + 512 * d.toNat + 256 * j.val = 256 * (r.val / 256) := h
  have hd : d.toNat ≤ 1 := by cases d <;> decide
  have hj : j.val < 2 := j.isLt
  have hc : hop d k c = ⟨r.val / 1024, by show _ < 4; omega⟩ := Fin.ext (by show (hop d k c).val = r.val / 1024; omega)
  have hx : ∀ q : Fin 4096, ix2 (⟨512 * d.toNat + 256 * j.val + r.val % 256, by omega⟩ : Fin 1024) q = ix2 (⟨r.val % 1024, Nat.mod_lt _ (by decide)⟩ : Fin 1024) q :=
    fun q => congrArg (fun p => ix2 p q) (Fin.ext (by show 512 * d.toNat + 256 * j.val + r.val % 256 = r.val % 1024; omega))
  simp only [hc, hx]

end OverReals

end Cert.GemmProof

end
-- ==== Proof.Refer.lean ====
/-
What the reference computes, over the reals: every element of its result as a sum of products of the operands' elements,
scaled and divided by one plus an exponential.
-/
module

public import proofs.«01_k».proof.Proof.Gen.ReferenceIdeal.Run
public import Idealize.ShloMosaic.Lib.Pointwise

@[expose] public section

set_option maxRecDepth 16384

noncomputable section

namespace Cert.GemmProof

open Cert.ReferenceIdeal Cert.ReferenceIdeal.Gen

open Idealize.ShloMosaic
open Idealize.ShloMosaic.TcCoe

variable (X : FVec Ideal S4096x4096 .f32) (W : FVec Ideal S4096x8192 .f32) (sx sw : FVec Ideal S1 .f32)

/-- The reference's scaled product, -/
def refY : FVec Ideal S4096x8192 .f32 :=
  mulf (Host.dotGeneral dot_S4096x4096_S4096x8192_S4096x8192_1_0_0_1_n_n none X W)
    (broadcastInDim S4096x8192 ![0, 1] bcast_S1x1_S4096x8192_0_1 (broadcastInDim S1x1 ![1] bcast_S1_S1x1_1 (mulf sx sw)))
/-- and its result. -/
def refO : FVec Ideal S4096x8192 .f32 :=
  Host.divf (refY X W sx sw) (addf (broadcastInDim S4096x8192 ![] bcast_S_S4096x8192 (constant S_ .f32 0x3F800000#32)) (Host.exp (Host.negf (refY X W sx sw))))

theorem refY_at (r : Fin 4096) (l : Fin 8192) :
    refY X W sx sw (ix2 r l) = (∑ k : Fin 4096, X (ix2 r k) * W (ix2 k l)) * (sx (ix1 0) * sw (ix1 0)) := by
  unfold refY
  pointwise

theorem refO_at (r : Fin 4096) (l : Fin 8192) :
    refO X W sx sw (ix2 r l) = Ideal.div (refY X W sx sw (ix2 r l)) (1 + Ideal.exp (-(refY X W sx sw (ix2 r l)))) := by
  unfold refO
  pointwise

end Cert.GemmProof

end
-- ==== Proof.Equation.lean ====
/-
The equation: a device's result is its block of columns of the reference's.
-/
module

public import proofs.«01_k».proof.Proof.Values
public import proofs.«01_k».proof.Proof.Refer
public import proofs.«01_k».proof.Proof.Launch
public import Idealize.ShloMosaic.Lib.Layout

@[expose] public section

noncomputable section

namespace Cert.GemmProof

open Idealize.ShloMosaic
open Idealize.ShloMosaic.TcCoe
open Cert.KernelIdeal

/-- The exponential is not negative. -/
theorem exp_nonneg (x : EReal) : 0 ≤ Ideal.exp x := by
  induction x with
  | bot => exact le_refl _
  | top => exact le_top
  | coe r => exact EReal.coe_nonneg.2 (Real.exp_pos r).le

/-- A value times its logistic is the value over one plus the exponential of its opposite, at the infinities too. -/
theorem gate (y : EReal) : y * Ideal.logistic y = Ideal.div y (1 + Ideal.exp (-y)) := by
  have h : (1 : EReal) + Ideal.exp (-y) ≠ 0 :=
    (lt_of_lt_of_le zero_lt_one (le_add_of_nonneg_right (exp_nonneg (-y)))).ne'
  unfold Ideal.logistic Ideal.div
  rw [if_neg h, if_neg h, one_mul]

theorem whole_ix (n : ℕ) : 0 + 1 * n = n := by omega

section Whole

variable {F : FTy → Type} [FloatOps F] (m : (ℓ : Loc nD τ sig) → Buf (Elt F) ℓ) (c : Dev nD)

/-- Each operand's one window is the whole of it. -/
theorem vals_X : (vals m).X c = m ((c : Thread nD τ).loc main_arg0) :=
  funext fun x => congrArg (m ((c : Thread nD τ).loc main_arg0)) (funext fun a => Fin.ext (by fin_cases a <;> exact whole_ix _))
theorem vals_sx : (vals m).sx c = m ((c : Thread nD τ).loc main_arg2) :=
  funext fun x => congrArg (m ((c : Thread nD τ).loc main_arg2)) (funext fun a => Fin.ext (by fin_cases a <;> exact whole_ix _))
theorem vals_sw : (vals m).sw c = m ((c : Thread nD τ).loc main_arg3) :=
  funext fun x => congrArg (m ((c : Thread nD τ).loc main_arg3)) (funext fun a => Fin.ext (by fin_cases a <;> exact whole_ix _))

end Whole

/-- Where every device holds its rows of the left operand, the whole weight and both scales, its result is its columns of the
    reference's result. -/
theorem out_eq (m : (ℓ : Loc nD τ sig) → Buf (Elt Ideal) ℓ) (X : FVec Ideal ⟨2, ![4096, 4096]⟩ .f32) (W : FVec Ideal ⟨2, ![4096, 8192]⟩ .f32)
    (sx sw : FVec Ideal ⟨1, ![1]⟩ .f32)
    (hX : ∀ c : Dev nD, m ((c : Thread nD τ).loc main_arg0) = Layout.block ⟨2, ![1024, 4096]⟩ ⟨2, ![4096, 4096]⟩ 0 4 c X)
    (hW : ∀ c : Dev nD, m ((c : Thread nD τ).loc main_arg1) = W)
    (hsx : ∀ c : Dev nD, m ((c : Thread nD τ).loc main_arg2) = sx) (hsw : ∀ c : Dev nD, m ((c : Thread nD τ).loc main_arg3) = sw) (c : Dev nD) :
    OUT c (vals m) = Layout.block ⟨2, ![4096, 2048]⟩ ⟨2, ![4096, 8192]⟩ 1 4 c (refO X W sx sw) := by
  funext x
  obtain ⟨r, l, rfl⟩ : ∃ (r : Fin 4096) (l : Fin 2048), x = ix2 r l := ⟨x 0, x 1, eq_ix2 x⟩
  have hc : c.val < 4 := c.isLt
  rw [OUT_at, Layout.block_apply]
  have e : (Layout.Tiles.idx (S := ⟨2, ![4096, 2048]⟩) (T := ⟨2, ![4096, 8192]⟩) (a := 1) (k := 4) (by decide) c (ix2 r l))
      = ix2 r (⟨2048 * c.val + l.val, by omega⟩ : Fin 8192) := by
    funext a
    refine Fin.ext ?_
    fin_cases a
    · rfl
    · show c.val * 2048 + l.val = 2048 * c.val + l.val; omega
  rw [e, refO_at, refY_at]
  have hp : pre (fun q => (vals m).X ⟨r.val / 1024, by show _ < 4; omega⟩ (ix2 ⟨r.val % 1024, Nat.mod_lt _ (by decide)⟩ q))
        (fun q => (vals m).W c (ix2 q ⟨2048 * c.val + l.val, by omega⟩)) ((vals m).sx c GemmProof.ix1 * (vals m).sw c GemmProof.ix1)
      = (∑ k : Fin 4096, X (ix2 r k) * W (ix2 k ⟨2048 * c.val + l.val, by omega⟩)) * (sx (Idealize.ShloMosaic.ix1 0) * sw (Idealize.ShloMosaic.ix1 0)) := by
    have hi : (GemmProof.ix1 : S1.Idx) = Idealize.ShloMosaic.ix1 0 := (GemmProof.ix1_eq _).symm
    rw [vals_sx, vals_sw, hsx, hsw, hi]
    refine congrArg (· * _) (Finset.sum_congr rfl fun k _ => ?_)
    rw [vals_X, hX]
    refine congrArg₂ (· * ·) (congrArg X (funext fun a => Fin.ext ?_)) (congrFun (hW c) _)
    fin_cases a
    · show r.val / 1024 * 1024 + r.val % 1024 = r.val; omega
    · rfl
  exact (congrArg (fun y => y * Ideal.logistic y) hp).trans (gate _)

end Cert.GemmProof

end
-- ==== Proof.Clip.lean ====
/-
The reference with its clip: where every scaled product is between the bounds, its result is the reference's without.
-/
module

public import proofs.«01_k».proof.Proof.Gen.ClippedIdeal.Run
public import proofs.«01_k».proof.Proof.Gen.Pre_unclipped_KernelIdeal
public import proofs.«01_k».proof.Proof.Refer
public import Idealize.ShloMosaic.Lib.Pointwise
public import Idealize.ShloMosaic.Lib.ReduceAll
public import Idealize.ShloMosaic.Lib.Layout

@[expose] public section

set_option maxRecDepth 16384

noncomputable section

namespace Cert.GemmProof

open Idealize.ShloMosaic
open Idealize.ShloMosaic.TcCoe

/-- The clip's two bounds, as the program's words spell them. -/
def lo : EReal := Ideal.ofBits .f32 0xC2700000#32
def hi : EReal := Ideal.ofBits .f32 0x42700000#32

section Clipped

open Cert.ClippedIdeal Cert.ClippedIdeal.Gen

variable (X : FVec Ideal S4096x4096 .f32) (W : FVec Ideal S4096x8192 .f32) (sx sw : FVec Ideal S1 .f32)

/-- The scaled product, -/
def clipY : FVec Ideal S4096x8192 .f32 :=
  mulf (Host.dotGeneral dot_S4096x4096_S4096x8192_S4096x8192_1_0_0_1_n_n none X W)
    (broadcastInDim S4096x8192 ![0, 1] bcast_S1x1_S4096x8192_0_1 (broadcastInDim S1x1 ![1] bcast_S1_S1x1_1 (mulf sx sw)))
/-- and the result with the clip. -/
def clipO : FVec Ideal S4096x8192 .f32 :=
  Host.divf (clipY X W sx sw) (addf (broadcastInDim S4096x8192 ![] bcast_S_S4096x8192 (constant S_ .f32 0x3F800000#32))
    (Host.exp (Host.negf (minimumf (broadcastInDim S4096x8192 ![] bcast_S_S4096x8192 (id (constant S_ .f32 0x42700000#32)))
      (maximumf (broadcastInDim S4096x8192 ![] bcast_S_S4096x8192 (id (constant S_ .f32 0xC2700000#32))) (clipY X W sx sw))))))

theorem clipY_at (r : Fin 4096) (l : Fin 8192) :
    clipY X W sx sw (ix2 r l) = (∑ k : Fin 4096, X (ix2 r k) * W (ix2 k l)) * (sx (ix1 0) * sw (ix1 0)) := by
  unfold clipY
  pointwise

theorem clipO_at (r : Fin 4096) (l : Fin 8192) :
    clipO X W sx sw (ix2 r l)
      = Ideal.div (clipY X W sx sw (ix2 r l)) (1 + Ideal.exp (-(min hi (max lo (clipY X W sx sw (ix2 r l)))))) := by
  unfold clipO hi lo
  generalize clipY X W sx sw = y
  pointwise
  try rfl

end Clipped

section Bounds

open Cert.Pre_unclipped_KernelIdeal Cert.Pre_unclipped_KernelIdeal.Gen

variable (x : FVec Ideal S1024x4096 .f32) (W : FVec Ideal S4096x8192 .f32) (sx sw : FVec Ideal S1 .f32)

/-- A device's scaled products, -/
def rowsY : FVec Ideal S1024x8192 .f32 :=
  mulf (Host.dotGeneral dot_S1024x4096_S4096x8192_S1024x8192_1_0_0_1_n_n none x W)
    (broadcastInDim S1024x8192 ![0, 1] Facts.bcast_S1x1_S1024x8192_0_1 (broadcastInDim S1x1 ![1] Facts.bcast_S1_S1x1_1 (mulf sx sw)))

theorem rowsY_at (r : Fin 1024) (l : Fin 8192) :
    rowsY x W sx sw (ix2 r l) = (∑ k : Fin 4096, x (ix2 r k) * W (ix2 k l)) * (sx (ix1 0) * sw (ix1 0)) := by
  unfold rowsY
  pointwise

theorem and_one (a b : Bool) (h : BitVec.ofBool a &&& BitVec.ofBool b = 1#1) : a = true ∧ b = true := by
  revert h; cases a <;> cases b <;> decide

/-- which the precondition bounds. -/
theorem bounds (h : fn (F := Ideal) x W sx sw = fun _ => 1#1) (r : Fin 1024) (l : Fin 8192) :
    lo ≤ rowsY x W sx sw (ix2 r l) ∧ rowsY x W sx sw (ix2 r l) ≤ hi := by
  have e := congrFun h (fun a => a.elim0)
  dsimp only [fn] at e
  haveI : Subsingleton S_.Idx := ⟨fun a b => funext fun i => i.elim0⟩
  have p := Host.reduce_andi_all _ _ _ _ _ e (ix2 r l)
  have q := and_one _ _ p
  exact ⟨of_decide_eq_true q.1, of_decide_eq_true q.2⟩

end Bounds

/-- Where every device's scaled products are within the bounds, the clip changes nothing. -/
theorem clip_eq (X : FVec Ideal ⟨2, ![4096, 4096]⟩ .f32) (W : FVec Ideal ⟨2, ![4096, 8192]⟩ .f32) (sx sw : FVec Ideal ⟨1, ![1]⟩ .f32)
    (h : ∀ c : Fin 4, Cert.Pre_unclipped_KernelIdeal.fn (F := Ideal) (Layout.block ⟨2, ![1024, 4096]⟩ ⟨2, ![4096, 4096]⟩ 0 4 c X) W sx sw = fun _ => 1#1) :
    clipO X W sx sw = refO X W sx sw := by
  funext i
  obtain ⟨r, l, rfl⟩ : ∃ (r : Fin 4096) (l : Fin 8192), i = ix2 r l := ⟨i 0, i 1, eq_ix2 i⟩
  have b := bounds _ W sx sw (h ⟨r.val / 1024, by omega⟩) ⟨r.val % 1024, Nat.mod_lt _ (by decide)⟩ l
  have e : rowsY (Layout.block ⟨2, ![1024, 4096]⟩ ⟨2, ![4096, 4096]⟩ 0 4 ⟨r.val / 1024, by omega⟩ X) W sx sw
      (ix2 ⟨r.val % 1024, Nat.mod_lt _ (by decide)⟩ l) = refY X W sx sw (ix2 r l) := by
    rw [rowsY_at, refY_at]
    refine congrArg (· * _) (Finset.sum_congr rfl fun k _ => congrArg (· * _) ?_)
    rw [Layout.block_apply]
    refine congrArg X (funext fun a => Fin.ext ?_)
    fin_cases a
    · show r.val / 1024 * 1024 + r.val % 1024 = r.val; omega
    · rfl
  rw [e] at b
  have y : clipY X W sx sw (ix2 r l) = refY X W sx sw (ix2 r l) := by rw [clipY_at, refY_at]
  rw [clipO_at, refO_at, y, max_eq_right b.1, min_eq_right b.2]

end Cert.GemmProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Gen.Pre_unclipped_KernelIdeal
public import proofs.«01_k».proof.Proof.Gen.Pre_unclipped_ClippedIdeal
public import proofs.«01_k».proof.Proof.Launch
public import proofs.«01_k».proof.Proof.Same
public import proofs.«01_k».proof.Proof.Equation
public import proofs.«01_k».proof.Proof.Clip
public import Idealize.ShloMosaic.Adequacy
public import Idealize.ShloMosaic.Init

@[expose] public section

noncomputable section

namespace Cert.Proof

open Idealize.ShloMosaic Idealize.SL.Sem Cert.Kernel

/-- The frame of the program at words: its text is that of the program over the reals, whose run holds of any float values. -/
theorem frame_kernel : Cert.quiescent_Kernel := fun m ρ _ =>
  Cert.GemmProof.run_same m ρ _
    ((θ_run Cert.KernelIdeal.defs _ _).mono (fun _ h => ⟨fun c => (h.1 c).2, h.2⟩) (Cert.GemmProof.run_main (F := Bits) m ρ))

theorem frame_kernelIdeal : Cert.quiescent_KernelIdeal := fun m ρ _ =>
  (θ_run Cert.KernelIdeal.defs _ _).mono (fun _ h => ⟨fun c => (h.1 c).2, h.2⟩) (Cert.GemmProof.run_main (F := Ideal) m ρ)

theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Each device's result is its block of columns of the reference's result on the whole operands. -/
theorem algebraic : Cert.algebraic_KernelIdeal_ReferenceIdeal := by
  intro m g m' g' _ h
  refine ⟨Cert.GemmProof.refO (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · exact (θ_run Cert.KernelIdeal.defs _ _).mono (fun r q c => ⟨(q.1 c).1.trans
      (Cert.GemmProof.out_eq m _ _ _ _ (fun c => (h c).1) (fun c => (h c).2.1) (fun c => (h c).2.2.1) (fun c => (h c).2.2.2) c), (q.1 c).2⟩)
      (Cert.GemmProof.run_main (F := Ideal) m g)
  · exact (θ_run Cert.ReferenceIdeal.defs _ _).mono (fun r q => q 0) (Cert.ReferenceIdeal.Value.run (F := Ideal) m' g')

theorem frame_clippedIdeal : Cert.quiescent_ClippedIdeal := fun m ρ _ =>
  (θ_run Cert.ClippedIdeal.defs _ _).mono (fun r h => ⟨fun c => (h c).2, Idealize.ShloMosaic.sem_eq_zero_of_no_sems (by decide) r.2⟩)
    (Cert.ClippedIdeal.Value.run (F := Ideal) m ρ)

/-- Where the clip changes nothing, the same holds of the reference with its clip. -/
theorem algebraic_clipped : Cert.algebraic_KernelIdeal_ClippedIdeal_pre_unclipped_KernelIdeal := by
  intro m g m' g' hpre h
  have hclip := Cert.GemmProof.clip_eq
      (m' (((0 : Dev Cert.ClippedIdeal.nD).tc : Thread Cert.ClippedIdeal.nD Cert.ClippedIdeal.τ).loc Cert.ClippedIdeal.main_arg0))
      (m' (((0 : Dev Cert.ClippedIdeal.nD).tc : Thread Cert.ClippedIdeal.nD Cert.ClippedIdeal.τ).loc Cert.ClippedIdeal.main_arg1))
      (m' (((0 : Dev Cert.ClippedIdeal.nD).tc : Thread Cert.ClippedIdeal.nD Cert.ClippedIdeal.τ).loc Cert.ClippedIdeal.main_arg2))
      (m' (((0 : Dev Cert.ClippedIdeal.nD).tc : Thread Cert.ClippedIdeal.nD Cert.ClippedIdeal.τ).loc Cert.ClippedIdeal.main_arg3))
    (fun c => by
      have p := hpre c
      rw [(h c).1, (h c).2.1, (h c).2.2.1, (h c).2.2.2] at p
      exact p)
  refine ⟨Cert.GemmProof.clipO
      (m' (((0 : Dev Cert.ClippedIdeal.nD).tc : Thread Cert.ClippedIdeal.nD Cert.ClippedIdeal.τ).loc Cert.ClippedIdeal.main_arg0))
      (m' (((0 : Dev Cert.ClippedIdeal.nD).tc : Thread Cert.ClippedIdeal.nD Cert.ClippedIdeal.τ).loc Cert.ClippedIdeal.main_arg1))
      (m' (((0 : Dev Cert.ClippedIdeal.nD).tc : Thread Cert.ClippedIdeal.nD Cert.ClippedIdeal.τ).loc Cert.ClippedIdeal.main_arg2))
      (m' (((0 : Dev Cert.ClippedIdeal.nD).tc : Thread Cert.ClippedIdeal.nD Cert.ClippedIdeal.τ).loc Cert.ClippedIdeal.main_arg3)), ?_, ?_⟩
  · exact (θ_run Cert.KernelIdeal.defs _ _).mono (fun r q c => ⟨((q.1 c).1.trans
      (Cert.GemmProof.out_eq m _ _ _ _ (fun c => (h c).1) (fun c => (h c).2.1) (fun c => (h c).2.2.1) (fun c => (h c).2.2.2) c)).trans
        (congrArg (Layout.block ⟨2, ![4096, 2048]⟩ ⟨2, ![4096, 8192]⟩ 1 4 c) hclip.symm), (q.1 c).2⟩)
      (Cert.GemmProof.run_main (F := Ideal) m g)
  · exact (θ_run Cert.ClippedIdeal.defs _ _).mono (fun r q => q 0) (Cert.ClippedIdeal.Value.run (F := Ideal) m' g')

theorem claim : Cert.Claim :=
  ⟨Cert.Kernel.Gen.facts, Cert.KernelIdeal.Gen.facts, Cert.ReferenceIdeal.Gen.facts, Cert.ClippedIdeal.Gen.facts,
    Cert.Pre_unclipped_KernelIdeal.Gen.facts, Cert.Pre_unclipped_ClippedIdeal.Gen.facts,
    frame_kernel, frame_kernelIdeal, fun m ρ _ => frame_kernelIdeal m ρ trivial, frame_referenceIdeal,
    frame_clippedIdeal, fun m ρ _ => frame_clippedIdeal m ρ trivial, trivial, algebraic, algebraic_clipped⟩

end Cert.Proof

end
